-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_reals [hPre_reals : Cert.Pre_reals.Facts] (m : (ℓ : Loc Cert.KernelIdeal.nD Cert.KernelIdeal.τ Cert.KernelIdeal.sig) → Buf (Elt Ideal) ℓ) : Prop :=
  ∀ c : Dev Cert.KernelIdeal.nD,
    (Cert.Pre_reals.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_reals.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_reals.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_reals.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_reals.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_reals.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_reals.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.1 = (fun _ => 1#1)
    ∧ (Cert.Pre_reals.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_reals [hPre_reals : Cert.Pre_reals.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_reals.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_reals.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_reals.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_reals.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_reals.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_reals.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_reals.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.1 = (fun _ => 1#1)
    ∧ (Cert.Pre_reals.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_reals [hKernelIdeal : Cert.KernelIdeal.Facts] [hPre_reals : Cert.Pre_reals.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_reals m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_reals [hReferenceIdeal : Cert.ReferenceIdeal.Facts] [hPre_reals : Cert.Pre_reals.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_reals m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "inv_sqrt_2" .f32 0x3F3504F3#32 (((Real.sqrt 2)⁻¹ : ℝ) : EReal)

def algebraic_KernelIdeal_ReferenceIdeal_pre_reals [hKernelIdeal : Cert.KernelIdeal.Facts] [hReferenceIdeal : Cert.ReferenceIdeal.Facts] [hPre_reals : Cert.Pre_reals.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_reals m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_reals : Cert.Pre_reals.Facts),
    quiescent_Kernel (hKernel := hKernel)
    ∧ quiescent_KernelIdeal (hKernelIdeal := hKernelIdeal)
    ∧ quiescent_KernelIdeal_pre_reals (hKernelIdeal := hKernelIdeal) (hPre_reals := hPre_reals)
    ∧ quiescent_ReferenceIdeal (hReferenceIdeal := hReferenceIdeal)
    ∧ quiescent_ReferenceIdeal_pre_reals (hReferenceIdeal := hReferenceIdeal) (hPre_reals := hPre_reals)
    ∧ preserves_Kernel_KernelIdeal
    ∧ algebraic_KernelIdeal_ReferenceIdeal_pre_reals (hKernelIdeal := hKernelIdeal) (hReferenceIdeal := hReferenceIdeal) (hPre_reals := hPre_reals)
-- ==== Pre_reals.lean ====
abbrev S4x2048x2048 : Shape := ⟨3, ![4, 2048, 2048]⟩
abbrev S4x8192 : Shape := ⟨2, ![4, 8192]⟩
abbrev S4 : Shape := ⟨1, ![4]⟩
abbrev S16x8192 : Shape := ⟨2, ![16, 8192]⟩
abbrev S16 : Shape := ⟨1, ![16]⟩
abbrev S1 : Shape := ⟨1, ![1]⟩
abbrev S4x4 : Shape := ⟨2, ![4, 4]⟩
abbrev S2048x8192 : Shape := ⟨2, ![2048, 8192]⟩
abbrev S8192 : Shape := ⟨1, ![8192]⟩
abbrev S8192x2048 : Shape := ⟨2, ![8192, 2048]⟩
abbrev S2048 : Shape := ⟨1, ![2048]⟩
abbrev S_ : Shape := ⟨0, ![]⟩

class Facts : Prop where
  bcast_S_S4x8192 : S_.BroadcastsInDim S4x8192 (![] : Fin 0 → Fin S4x8192.rank)
  bcast_S_S16x8192 : S_.BroadcastsInDim S16x8192 (![] : Fin 0 → Fin S16x8192.rank)
  bcast_S_S16 : S_.BroadcastsInDim S16 (![] : Fin 0 → Fin S16.rank)
  bcast_S_S1 : S_.BroadcastsInDim S1 (![] : Fin 0 → Fin S1.rank)
  bcast_S_S4x4 : S_.BroadcastsInDim S4x4 (![] : Fin 0 → Fin S4x4.rank)

variable [Facts]

def fn_part1 {F : FTy → Type} [FloatOps F] (main_arg9 : FVec F S1 .f32) (main_arg12 : FVec F S4x4 .f32) (main_v2 : IVec S4x8192 1) (main_v5 : IVec S4x8192 1) (main_v8 : IVec S16x8192 1) (main_v11 : IVec S16 1) (main_v14 : IVec S1 1) (main_v17 : IVec S1 1) : IVec S4x8192 1 × IVec S4x8192 1 × IVec S16x8192 1 × IVec S16 1 × IVec S1 1 × IVec S1 1 × IVec S1 1 × IVec S4x4 1 :=
  let main_v18 : FVec F S1 .f32 := Host.absf main_arg9
  let main_cst_5 : FVec F S_ .f32 := constant S_ .f32 0x7F800000#32
  let main_v19 : FVec F S1 .f32 := broadcastInDim S1 ![] bcast_S_S1 main_cst_5
  let main_v20 : IVec S1 1 := cmpf .olt main_v18 main_v19
  let main_v21 : FVec F S4x4 .f32 := Host.absf main_arg12
  let main_cst_6 : FVec F S_ .f32 := constant S_ .f32 0x7F800000#32
  let main_v22 : FVec F S4x4 .f32 := broadcastInDim S4x4 ![] bcast_S_S4x4 main_cst_6
  let main_v23 : IVec S4x4 1 := cmpf .olt main_v21 main_v22
  (main_v2, main_v5, main_v8, main_v11, main_v14, main_v17, main_v20, main_v23)

def fn {F : FTy → Type} [FloatOps F] (main_arg0 : FVec F S4x2048x2048 .f32) (main_arg1 : FVec F S4x8192 .f32) (main_arg2 : FVec F S4 .f32) (main_arg3 : FVec F S4x8192 .f32) (main_arg4 : FVec F S4 .f32) (main_arg5 : FVec F S16x8192 .f32) (main_arg6 : FVec F S16 .f32) (main_arg7 : FVec F S1 .f32) (main_arg8 : FVec F S1 .f32) (main_arg9 : FVec F S1 .f32) (main_arg10 : FVec F S4 .f32) (main_arg11 : FVec F S4 .f32) (main_arg12 : FVec F S4x4 .f32) (main_arg13 : FVec F S2048x8192 .f32) (main_arg14 : FVec F S8192 .f32) (main_arg15 : FVec F S8192x2048 .f32) (main_arg16 : FVec F S2048 .f32) : IVec S4x8192 1 × IVec S4x8192 1 × IVec S16x8192 1 × IVec S16 1 × IVec S1 1 × IVec S1 1 × IVec S1 1 × IVec S4x4 1 :=
  let main_v0 : FVec F S4x8192 .f32 := Host.absf main_arg1
  let main_cst : FVec F S_ .f32 := constant S_ .f32 0x7F800000#32
  let main_v1 : FVec F S4x8192 .f32 := broadcastInDim S4x8192 ![] bcast_S_S4x8192 main_cst
  let main_v2 : IVec S4x8192 1 := cmpf .olt main_v0 main_v1
  let main_v3 : FVec F S4x8192 .f32 := Host.absf main_arg3
  let main_cst_0 : FVec F S_ .f32 := constant S_ .f32 0x7F800000#32
  let main_v4 : FVec F S4x8192 .f32 := broadcastInDim S4x8192 ![] bcast_S_S4x8192 main_cst_0
  let main_v5 : IVec S4x8192 1 := cmpf .olt main_v3 main_v4
  let main_v6 : FVec F S16x8192 .f32 := Host.absf main_arg5
  let main_cst_1 : FVec F S_ .f32 := constant S_ .f32 0x7F800000#32
  let main_v7 : FVec F S16x8192 .f32 := broadcastInDim S16x8192 ![] bcast_S_S16x8192 main_cst_1
  let main_v8 : IVec S16x8192 1 := cmpf .olt main_v6 main_v7
  let main_v9 : FVec F S16 .f32 := Host.absf main_arg6
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_v12 : FVec F S1 .f32 := Host.absf main_arg7
  let main_cst_3 : FVec F S_ .f32 := constant S_ .f32 0x7F800000#32
  let main_v13 : FVec F S1 .f32 := broadcastInDim S1 ![] bcast_S_S1 main_cst_3
  let main_v14 : IVec S1 1 := cmpf .olt main_v12 main_v13
  let main_v15 : FVec F S1 .f32 := Host.absf main_arg8
  let main_cst_4 : FVec F S_ .f32 := constant S_ .f32 0x7F800000#32
  let main_v16 : FVec F S1 .f32 := broadcastInDim S1 ![] bcast_S_S1 main_cst_4
  let main_v17 : IVec S1 1 := cmpf .olt main_v15 main_v16
  fn_part1 (F := F) main_arg9 main_arg12 main_v2 main_v5 main_v8 main_v11 main_v14 main_v17
-- ==== Kernel.lean ====
abbrev S4x2048x2048 : Shape := ⟨3, ![4, 2048, 2048]⟩
abbrev S4x8192 : Shape := ⟨2, ![4, 8192]⟩
abbrev S4 : Shape := ⟨1, ![4]⟩
abbrev S16x8192 : Shape := ⟨2, ![16, 8192]⟩
abbrev S16 : Shape := ⟨1, ![16]⟩
abbrev S1 : Shape := ⟨1, ![1]⟩
abbrev S4x4 : Shape := ⟨2, ![4, 4]⟩
abbrev S2048x8192 : Shape := ⟨2, ![2048, 8192]⟩
abbrev S8192 : Shape := ⟨1, ![8192]⟩
abbrev S8192x2048 : Shape := ⟨2, ![8192, 2048]⟩
abbrev S2048 : Shape := ⟨1, ![2048]⟩
abbrev S4x4x2048 : Shape := ⟨3, ![4, 4, 2048]⟩
abbrev S_ : Shape := ⟨0, ![]⟩
abbrev S4x2048 : Shape := ⟨2, ![4, 2048]⟩
abbrev S2048x4 : Shape := ⟨2, ![2048, 4]⟩
abbrev S1x1 : Shape := ⟨2, ![1, 1]⟩
abbrev S2048x8 : Shape := ⟨2, ![2048, 8]⟩
abbrev S8 : Shape := ⟨1, ![8]⟩
abbrev S1x8 : Shape := ⟨2, ![1, 8]⟩
abbrev S1x8192 : Shape := ⟨2, ![1, 8192]⟩
abbrev S1x2048 : Shape := ⟨2, ![1, 2048]⟩
abbrev S1024x2048 : Shape := ⟨2, ![1024, 2048]⟩
abbrev S2048x512 : Shape := ⟨2, ![2048, 512]⟩
abbrev S1x512 : Shape := ⟨2, ![1, 512]⟩
abbrev S512x2048 : Shape := ⟨2, ![512, 2048]⟩
abbrev S1024x1 : Shape := ⟨2, ![1024, 1]⟩
abbrev S1024 : Shape := ⟨1, ![1024]⟩
abbrev S1024x8 : Shape := ⟨2, ![1024, 8]⟩
abbrev S1024x512 : Shape := ⟨2, ![1024, 512]⟩

abbrev nBuf : Space → Nat
  | .hbm => 44
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S4x8192, .f32⟩
  | .hbm, ⟨2, _⟩ => ⟨S4, .f32⟩
  | .hbm, ⟨3, _⟩ => ⟨S4x8192, .f32⟩
  | .hbm, ⟨4, _⟩ => ⟨S4, .f32⟩
  | .hbm, ⟨5, _⟩ => ⟨S16x8192, .f32⟩
  | .hbm, ⟨6, _⟩ => ⟨S16, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S4, .f32⟩
  | .hbm, ⟨11, _⟩ => ⟨S4, .f32⟩
  | .hbm, ⟨12, _⟩ => ⟨S4x4, .f32⟩
  | .hbm, ⟨13, _⟩ => ⟨S2048x8192, .f32⟩
  | .hbm, ⟨14, _⟩ => ⟨S8192, .f32⟩
  | .hbm, ⟨15, _⟩ => ⟨S8192x2048, .f32⟩
  | .hbm, ⟨16, _⟩ => ⟨S2048, .f32⟩
  | .hbm, ⟨17, _⟩ => ⟨S4x4x2048, .f32⟩
  | .hbm, ⟨18, _⟩ => ⟨S_, .f32⟩
  | .hbm, ⟨19, _⟩ => ⟨S4x2048, .f32⟩
  | .hbm, ⟨20, _⟩ => ⟨S4x4x2048, .f32⟩
  | .hbm, ⟨21, _⟩ => ⟨S_, .f32⟩
  | .hbm, ⟨22, _⟩ => ⟨S4x2048, .f32⟩
  | .hbm, ⟨23, _⟩ => ⟨S2048x4, .f32⟩
  | .hbm, ⟨24, _⟩ => ⟨S1x1, .f32⟩
  | .hbm, ⟨25, _⟩ => ⟨S2048x4, .f32⟩
  | .hbm, ⟨26, _⟩ => ⟨S2048x4, .f32⟩
  | .hbm, ⟨27, _⟩ => ⟨S2048x4, .f32⟩
  | .hbm, ⟨28, _⟩ => ⟨S1x1, .f32⟩
  | .hbm, ⟨29, _⟩ => ⟨S2048x4, .f32⟩
  | .hbm, ⟨30, _⟩ => ⟨S2048x4, .f32⟩
  | .hbm, ⟨31, _⟩ => ⟨S2048x8, .f32⟩
  | .hbm, ⟨32, _⟩ => ⟨S4, .f32⟩
  | .hbm, ⟨33, _⟩ => ⟨S4, .f32⟩
  | .hbm, ⟨34, _⟩ => ⟨S4, .f32⟩
  | .hbm, ⟨35, _⟩ => ⟨S4, .f32⟩
  | .hbm, ⟨36, _⟩ => ⟨S4, .f32⟩
  | .hbm, ⟨37, _⟩ => ⟨S4, .f32⟩
  | .hbm, ⟨38, _⟩ => ⟨S8, .f32⟩
  | .hbm, ⟨39, _⟩ => ⟨S1x8, .f32⟩
  | .hbm, ⟨40, _⟩ => ⟨S8192x2048, .f32⟩
  | .hbm, ⟨41, _⟩ => ⟨S1x8192, .f32⟩
  | .hbm, ⟨42, _⟩ => ⟨S1x2048, .f32⟩
  | .hbm, ⟨43, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S2048x8, .f32⟩
  | .local _ .vmem, ⟨3, _⟩ => ⟨S1x8, .f32⟩
  | .local _ .vmem, ⟨4, _⟩ => ⟨S2048x512, .f32⟩
  | .local _ .vmem, ⟨5, _⟩ => ⟨S2048x512, .f32⟩
  | .local _ .vmem, ⟨6, _⟩ => ⟨S1x512, .f32⟩
  | .local _ .vmem, ⟨7, _⟩ => ⟨S1x512, .f32⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S1024x2048, .f32⟩
  | .local _ .vmem, ⟨12, _⟩ => ⟨S1024x2048, .f32⟩
  | .local _ .vmem, ⟨13, _⟩ => ⟨S1024x2048, .bf16⟩
  | .local _ .vmem, ⟨14, _⟩ => ⟨S1024x1, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "inv_sqrt_2" => some (((Real.sqrt 2)⁻¹ : ℝ) : EReal)
  | _ => none
-- ==== ReferenceIdeal.lean ====
abbrev S4x2048x2048 : Shape := ⟨3, ![4, 2048, 2048]⟩
abbrev S4x8192 : Shape := ⟨2, ![4, 8192]⟩
abbrev S4 : Shape := ⟨1, ![4]⟩
abbrev S16x8192 : Shape := ⟨2, ![16, 8192]⟩
abbrev S16 : Shape := ⟨1, ![16]⟩
abbrev S1 : Shape := ⟨1, ![1]⟩
abbrev S4x4 : Shape := ⟨2, ![4, 4]⟩
abbrev S2048x8192 : Shape := ⟨2, ![2048, 8192]⟩
abbrev S8192 : Shape := ⟨1, ![8192]⟩
abbrev S8192x2048 : Shape := ⟨2, ![8192, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S4x4x2048 : Shape := ⟨3, ![4, 4, 2048]⟩
abbrev S16x4x2048 : Shape := ⟨3, ![16, 4, 2048]⟩
abbrev S16x2048 : Shape := ⟨2, ![16, 2048]⟩
abbrev S4x2048x4 : Shape := ⟨3, ![4, 2048, 4]⟩
abbrev S1x1x4 : Shape := ⟨3, ![1, 1, 4]⟩
abbrev S1x1x1 : Shape := ⟨3, ![1, 1, 1]⟩
abbrev S4x2048x16 : Shape := ⟨3, ![4, 2048, 16]⟩
abbrev S1x1x16 : Shape := ⟨3, ![1, 1, 16]⟩
abbrev S4x2048x4x4 : Shape := ⟨4, ![4, 2048, 4, 4]⟩
abbrev S1x1x4x4 : Shape := ⟨4, ![1, 1, 4, 4]⟩
abbrev S4x2048x4x1 : Shape := ⟨4, ![4, 2048, 4, 1]⟩
abbrev S4x2048x1x4 : Shape := ⟨4, ![4, 2048, 1, 4]⟩
abbrev S4x2048x8192 : Shape := ⟨3, ![4, 2048, 8192]⟩
abbrev S1x1x8192 : Shape := ⟨3, ![1, 1, 8192]⟩
abbrev S1x1x2048 : Shape := ⟨3, ![1, 1, 2048]⟩

abbrev nBuf : Space → Nat
  | .hbm => 225
  | .vmem => 0
  | .smem => 0
  | _ => 0

abbrev hbmTy0_0 (i : Nat) : BufTy := match i % 128 with
  | 0 => ⟨S4x2048x2048, .f32⟩
  | 1 => ⟨S4x8192, .f32⟩
  | 2 => ⟨S4, .f32⟩
  | 3 => ⟨S4x8192, .f32⟩
  | 4 => ⟨S4, .f32⟩
  | 5 => ⟨S16x8192, .f32⟩
  | 6 => ⟨S16, .f32⟩
  | 7 => ⟨S1, .f32⟩
  | 8 => ⟨S1, .f32⟩
  | 9 => ⟨S1, .f32⟩
  | 10 => ⟨S4, .f32⟩
  | 11 => ⟨S4, .f32⟩
  | 12 => ⟨S4x4, .f32⟩
  | 13 => ⟨S2048x8192, .f32⟩
  | 14 => ⟨S8192, .f32⟩
  | 15 => ⟨S8192x2048, .f32⟩
  | 16 => ⟨S2048, .f32⟩
  | 17 => ⟨S4x2048x2048, .f32⟩
  | 18 => ⟨S_, .f32⟩
  | 19 => ⟨S4x2048, .f32⟩
  | 20 => ⟨S4x2048x1, .f32⟩
  | 21 => ⟨S_, .f32⟩
  | 22 => ⟨S4x2048x1, .f32⟩
  | 23 => ⟨S4x2048x1, .f32⟩
  | 24 => ⟨S_, .f32⟩
  | 25 => ⟨S4x2048x1, .f32⟩
  | 26 => ⟨S4x2048x1, .f32⟩
  | 27 => ⟨S4x2048x1, .f32⟩
  | 28 => ⟨S4x2048x2048, .f32⟩
  | 29 => ⟨S4x2048x2048, .f32⟩
  | 30 => ⟨S4x4x2048, .f32⟩
  | 31 => ⟨S_, .f32⟩
  | 32 => ⟨S4x2048, .f32⟩
  | 33 => ⟨S4x4x2048, .f32⟩
  | 34 => ⟨S_, .f32⟩
  | 35 => ⟨S4x2048, .f32⟩
  | 36 => ⟨S16x4x2048, .f32⟩
  | 37 => ⟨S_, .f32⟩
  | 38 => ⟨S16x2048, .f32⟩
  | 39 => ⟨S4x2048x4, .f32⟩
  | 40 => ⟨S1x1x4, .f32⟩
  | 41 => ⟨S4x2048x4, .f32⟩
  | 42 => ⟨S4x2048x4, .f32⟩
  | 43 => ⟨S1x1x1, .f32⟩
  | 44 => ⟨S4x2048x4, .f32⟩
  | 45 => ⟨S4x2048x4, .f32⟩
  | 46 => ⟨S1x1x4, .f32⟩
  | 47 => ⟨S4x2048x4, .f32⟩
  | 48 => ⟨S4x2048x4, .f32⟩
  | 49 => ⟨S4x2048x4, .f32⟩
  | 50 => ⟨S1x1x4, .f32⟩
  | 51 => ⟨S4x2048x4, .f32⟩
  | 52 => ⟨S4x2048x4, .f32⟩
  | 53 => ⟨S1x1x1, .f32⟩
  | 54 => ⟨S4x2048x4, .f32⟩
  | 55 => ⟨S4x2048x4, .f32⟩
  | 56 => ⟨S1x1x4, .f32⟩
  | 57 => ⟨S4x2048x4, .f32⟩
  | 58 => ⟨S4x2048x4, .f32⟩
  | 59 => ⟨S4x2048x16, .f32⟩
  | 60 => ⟨S1x1x16, .f32⟩
  | 61 => ⟨S4x2048x16, .f32⟩
  | 62 => ⟨S4x2048x16, .f32⟩
  | 63 => ⟨S1x1x1, .f32⟩
  | 64 => ⟨S4x2048x16, .f32⟩
  | 65 => ⟨S4x2048x16, .f32⟩
  | 66 => ⟨S4x2048x4x4, .f32⟩
  | 67 => ⟨S1x1x4x4, .f32⟩
  | 68 => ⟨S4x2048x4x4, .f32⟩
  | 69 => ⟨S4x2048x4x4, .f32⟩
  | 70 => ⟨S4x2048x4, .f32⟩
  | 71 => ⟨S4x2048x4, .f32⟩
  | 72 => ⟨S_, .f32⟩
  | 73 => ⟨S4x2048x4, .f32⟩
  | 74 => ⟨S4x2048x4, .f32⟩
  | 75 => ⟨S_, .f32⟩
  | 76 => ⟨S4x2048x4, .f32⟩
  | 77 => ⟨S4x2048x4, .f32⟩
  | 78 => ⟨S4x2048x4, .f32⟩
  | 79 => ⟨S4x2048x4, .f32⟩
  | 80 => ⟨S_, .f32⟩
  | 81 => ⟨S4x2048x4, .f32⟩
  | 82 => ⟨S4x2048x4, .f32⟩
  | 83 => ⟨S_, .f32⟩
  | 84 => ⟨S4x2048x4, .f32⟩
  | 85 => ⟨S4x2048x4, .f32⟩
  | 86 => ⟨S_, .f32⟩
  | 87 => ⟨S4x2048x4, .f32⟩
  | 88 => ⟨S4x2048x4, .f32⟩
  | 89 => ⟨S4x2048x4x4, .f32⟩
  | 90 => ⟨S_, .f32⟩
  | 91 => ⟨S4x2048x4, .f32⟩
  | 92 => ⟨S4x2048x4x1, .f32⟩
  | 93 => ⟨S4x2048x4x4, .f32⟩
  | 94 => ⟨S4x2048x4x4, .f32⟩
  | 95 => ⟨S_, .f32⟩
  | 96 => ⟨S4x2048x4, .f32⟩
  | 97 => ⟨S4x2048x1x4, .f32⟩
  | 98 => ⟨S4x2048x4x4, .f32⟩
  | 99 => ⟨S4x2048x4x4, .f32⟩
  | 100 => ⟨S_, .f32⟩
  | 101 => ⟨S4x2048x4, .f32⟩
  | 102 => ⟨S4x2048x4x1, .f32⟩
  | 103 => ⟨S4x2048x4x4, .f32⟩
  | 104 => ⟨S4x2048x4x4, .f32⟩
  | 105 => ⟨S_, .f32⟩
  | 106 => ⟨S4x2048x4, .f32⟩
  | 107 => ⟨S4x2048x1x4, .f32⟩
  | 108 => ⟨S4x2048x4x4, .f32⟩
  | 109 => ⟨S4x2048x4x4, .f32⟩
  | 110 => ⟨S_, .f32⟩
  | 111 => ⟨S4x2048x4, .f32⟩
  | 112 => ⟨S4x2048x4x1, .f32⟩
  | 113 => ⟨S4x2048x4x4, .f32⟩
  | 114 => ⟨S4x2048x4x4, .f32⟩
  | 115 => ⟨S_, .f32⟩
  | 116 => ⟨S4x2048x4, .f32⟩
  | 117 => ⟨S4x2048x1x4, .f32⟩
  | 118 => ⟨S4x2048x4x4, .f32⟩
  | 119 => ⟨S4x2048x4x4, .f32⟩
  | 120 => ⟨S_, .f32⟩
  | 121 => ⟨S4x2048x4, .f32⟩
  | 122 => ⟨S4x2048x4x1, .f32⟩
  | 123 => ⟨S4x2048x4x4, .f32⟩
  | 124 => ⟨S4x2048x4x4, .f32⟩
  | 125 => ⟨S_, .f32⟩
  | 126 => ⟨S4x2048x4, .f32⟩
  | 127 => ⟨S4x2048x1x4, .f32⟩
  | _ => ⟨S4x2048x2048, .f32⟩

abbrev hbmTy0_1 (i : Nat) : BufTy := match i % 128 with
  | 0 => ⟨S4x2048x4x4, .f32⟩
  | 1 => ⟨S4x2048x4x4, .f32⟩
  | 2 => ⟨S_, .f32⟩
  | 3 => ⟨S4x2048x4, .f32⟩
  | 4 => ⟨S4x2048x4x1, .f32⟩
  | 5 => ⟨S4x2048x4x4, .f32⟩
  | 6 => ⟨S4x2048x4x4, .f32⟩
  | 7 => ⟨S_, .f32⟩
  | 8 => ⟨S4x2048x4, .f32⟩
  | 9 => ⟨S4x2048x1x4, .f32⟩
  | 10 => ⟨S4x2048x4x4, .f32⟩
  | 11 => ⟨S4x2048x4x4, .f32⟩
  | 12 => ⟨S_, .f32⟩
  | 13 => ⟨S4x2048x4, .f32⟩
  | 14 => ⟨S4x2048x4x1, .f32⟩
  | 15 => ⟨S4x2048x4x4, .f32⟩
  | 16 => ⟨S4x2048x4x4, .f32⟩
  | 17 => ⟨S_, .f32⟩
  | 18 => ⟨S4x2048x4, .f32⟩
  | 19 => ⟨S4x2048x1x4, .f32⟩
  | 20 => ⟨S4x2048x4x4, .f32⟩
  | 21 => ⟨S4x2048x4x4, .f32⟩
  | 22 => ⟨S_, .f32⟩
  | 23 => ⟨S4x2048x4, .f32⟩
  | 24 => ⟨S4x2048x4x1, .f32⟩
  | 25 => ⟨S4x2048x4x4, .f32⟩
  | 26 => ⟨S4x2048x4x4, .f32⟩
  | 27 => ⟨S_, .f32⟩
  | 28 => ⟨S4x2048x4, .f32⟩
  | 29 => ⟨S4x2048x1x4, .f32⟩
  | 30 => ⟨S4x2048x4x4, .f32⟩
  | 31 => ⟨S4x2048x4x4, .f32⟩
  | 32 => ⟨S_, .f32⟩
  | 33 => ⟨S4x2048x4, .f32⟩
  | 34 => ⟨S4x2048x4x1, .f32⟩
  | 35 => ⟨S4x2048x4x4, .f32⟩
  | 36 => ⟨S4x2048x4x4, .f32⟩
  | 37 => ⟨S_, .f32⟩
  | 38 => ⟨S4x2048x4, .f32⟩
  | 39 => ⟨S4x2048x1x4, .f32⟩
  | 40 => ⟨S4x2048x4x4, .f32⟩
  | 41 => ⟨S4x2048x4x4, .f32⟩
  | 42 => ⟨S_, .f32⟩
  | 43 => ⟨S4x2048x4, .f32⟩
  | 44 => ⟨S4x2048x4x1, .f32⟩
  | 45 => ⟨S4x2048x4x4, .f32⟩
  | 46 => ⟨S4x2048x4x4, .f32⟩
  | 47 => ⟨S_, .f32⟩
  | 48 => ⟨S4x2048x4, .f32⟩
  | 49 => ⟨S4x2048x1x4, .f32⟩
  | 50 => ⟨S4x2048x4x4, .f32⟩
  | 51 => ⟨S4x2048x4x4, .f32⟩
  | 52 => ⟨S_, .f32⟩
  | 53 => ⟨S4x2048x4, .f32⟩
  | 54 => ⟨S4x2048x4x1, .f32⟩
  | 55 => ⟨S4x2048x4x4, .f32⟩
  | 56 => ⟨S4x2048x4x4, .f32⟩
  | 57 => ⟨S_, .f32⟩
  | 58 => ⟨S4x2048x4, .f32⟩
  | 59 => ⟨S4x2048x1x4, .f32⟩
  | 60 => ⟨S4x2048x4x4, .f32⟩
  | 61 => ⟨S4x2048x4x4, .f32⟩
  | 62 => ⟨S_, .f32⟩
  | 63 => ⟨S4x2048, .f32⟩
  | 64 => ⟨S4x2048x1, .f32⟩
  | 65 => ⟨S4x2048x2048, .f32⟩
  | 66 => ⟨S4x2048x2048, .f32⟩
  | 67 => ⟨S4x2048x8192, .f32⟩
  | 68 => ⟨S1x1x8192, .f32⟩
  | 69 => ⟨S4x2048x8192, .f32⟩
  | 70 => ⟨S4x2048x8192, .f32⟩
  | 71 => ⟨S_, .f32⟩
  | 72 => ⟨S4x2048x8192, .f32⟩
  | 73 => ⟨S4x2048x8192, .f32⟩
  | 74 => ⟨S4x2048x8192, .f32⟩
  | 75 => ⟨S_, .f32⟩
  | 76 => ⟨S_, .f32⟩
  | 77 => ⟨S4x2048x8192, .f32⟩
  | 78 => ⟨S4x2048x8192, .f32⟩
  | 79 => ⟨S4x2048x8192, .f32⟩
  | 80 => ⟨S4x2048x8192, .f32⟩
  | 81 => ⟨S4x2048x2048, .f32⟩
  | 82 => ⟨S1x1x2048, .f32⟩
  | 83 => ⟨S4x2048x2048, .f32⟩
  | 84 => ⟨S4x2048x2048, .f32⟩
  | 85 => ⟨S_, .f32⟩
  | 86 => ⟨S4x2048, .f32⟩
  | 87 => ⟨S4x2048x1, .f32⟩
  | 88 => ⟨S_, .f32⟩
  | 89 => ⟨S4x2048, .f32⟩
  | 90 => ⟨S4x2048x1, .f32⟩
  | 91 => ⟨S4x2048x2048, .f32⟩
  | 92 => ⟨S4x2048x2048, .f32⟩
  | 93 => ⟨S4x2048x2048, .f32⟩
  | 94 => ⟨S4x2048x2048, .f32⟩
  | 95 => ⟨S4x2048x2048, .f32⟩
  | 96 => ⟨S8192x2048, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_cst_3 : Ref sig .tc := ⟨.hbm, 34, rfl⟩
abbrev main_v13 : Ref sig .tc := ⟨.hbm, 35, rfl⟩
abbrev main_v14 : Ref sig .tc := ⟨.hbm, 36, rfl⟩
abbrev main_cst_4 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_5 : Ref sig .tc := ⟨.hbm, 72, rfl⟩
abbrev main_v49 : Ref sig .tc := ⟨.hbm, 73, rfl⟩
abbrev main_v50 : Ref sig .tc := ⟨.hbm, 74, rfl⟩
abbrev main_cst_6 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_7 : Ref sig .tc := ⟨.hbm, 80, rfl⟩
abbrev main_v55 : Ref sig .tc := ⟨.hbm, 81, rfl⟩
abbrev main_v56 : Ref sig .tc := ⟨.hbm, 82, rfl⟩
abbrev main_cst_8 : Ref sig .tc := ⟨.hbm, 83, rfl⟩
abbrev main_v57 : Ref sig .tc := ⟨.hbm, 84, rfl⟩
abbrev main_v58 : Ref sig .tc := ⟨.hbm, 85, rfl⟩
abbrev main_cst_9 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_10 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_11 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_12 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_13 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_14 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_15 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_16 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_17 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_18 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_19 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_20 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_21 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_22 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_23 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_24 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_25 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_cst_26 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_cst_27 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_cst_28 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_cst_29 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_cst_30 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_cst_31 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_cst_32 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_cst_33 : Ref sig .tc := ⟨.hbm, 213, rfl⟩
abbrev main_v162 : Ref sig .tc := ⟨.hbm, 214, rfl⟩
abbrev main_v163 : Ref sig .tc := ⟨.hbm, 215, rfl⟩
abbrev main_cst_34 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩

abbrev nD : Nat := 1
abbrev τ : Topo := Topo.v7x

variable {F : FTy → Type} [FloatOps F]
-- ==== Proof.KernelCases.lean ====
/-
  What the kernel's body leaves at one grid point, in each of its three cases, as its printed payloads of the blocks
  that it reads: at the first feature tile of a row block (case A) it computes the gates, keeps the gated rows and the
  output gate, and starts the accumulator from zero; at the tiles between (case B) it adds a tile's part of the
  network to the accumulator; at the last tile (case C) it does the same and then finishes the row block.
-/
module

public import proofs.«01_k».proof.Proof.Gen.KernelIdeal.Value

@[expose] public section

noncomputable section

namespace Cert.KernelIdeal.Cases

open Cert.KernelIdeal Cert.KernelIdeal.Gen Idealize.ShloMosaic Idealize.ShloMosaic.TcCoe

variable {F : FTy → Type} [FloatOps F] [Named F]

/-- The whole-block offsets are zero. -/
theorem zero_off : (![0, 0] : Fin 2 → Nat) = fun _ => 0 := funext fun a => by fin_cases a <;> rfl

section
variable (c : Dev nD) (i : grid0.Coords)
  (a2 : Memref sig .tc .vmem S1024x2048 .f32) (h2 : a2.IsWhole) (a3 : Memref sig .tc .vmem S2048x8 .f32) (h3 : a3.IsWhole)
  (a4 : Memref sig .tc .vmem S1x8 .f32) (h4 : a4.IsWhole) (a5 : Memref sig .tc .vmem S2048x512 .f32) (h5 : a5.IsWhole)
  (a6 : Memref sig .tc .vmem S1x512 .f32) (h6 : a6.IsWhole) (a7 : Memref sig .tc .vmem S512x2048 .f32) (h7 : a7.IsWhole)
  (a8 : Memref sig .tc .vmem S1x2048 .f32) (h8 : a8.IsWhole) (a9 : Memref sig .tc .vmem S1024x2048 .f32) (h9 : a9.IsWhole)
  (a10 : Memref sig .tc .vmem S1024x2048 .bf16) (h10 : a10.IsWhole) (a11 : Memref sig .tc .vmem S1024x1 .f32) (h11 : a11.IsWhole)
  (x0 : Vec F S1024x2048 .f32) (x1 : Vec F S2048x8 .f32) (x2 : Vec F S1x8 .f32) (x3 : Vec F S2048x512 .f32)
  (x4 : Vec F S1x512 .f32) (x5 : Vec F S512x2048 .f32) (x6 : Vec F S1x2048 .f32)
  (acc : Vec F S1024x2048 .f32) (bi : Vec F S1024x2048 .bf16) (gp : Vec F S1024x1 .f32)

/-- Case A, the kept rows: the rows gated by the input gate. -/
theorem rows_A (hc0 : cond0_0 i) (hc1 : ¬cond0_1 i) :
    sout0_A_0 c i a2 h2 a3 h3 a4 h4 a5 h5 a6 h6 a7 h7 a8 h8 a9 h9 a10 h10 a11 h11 hc0 hc1 x0 x1 x2 x3 x4 x5 x6
    = k0_pay2 (k0_pay6 x0) (k0_pay9 x0 x1 x2) := by
  unfold sout0_A_0
  rw [View.read_writes_eq_canon _ _ _ (scover0_A_0 c i a2 h2 a3 h3 a4 h4 a5 h5 a6 h6 a7 h7 a8 h8 a9 h9 a10 h10 a11 h11 hc0 hc1 x0 x1 x2 x3 x4 x5 x6)]
  unfold kernelRun0_A
  dsimp only
  sl_unfold_words
  rw [View.canon_unit_zero zero_off]
  simp only [View.readAt_eq_ld, h2.read_unread, h3.read_unread, h4.read_unread,
    View.ld_unit_zero (S := S1024x2048) zero_off, View.ld_unit_zero (S := S2048x8) zero_off, View.ld_unit_zero (S := S1x8) zero_off]

/-- Case A, the kept output gate. -/
theorem gate_A (hc0 : cond0_0 i) (hc1 : ¬cond0_1 i) :
    sout0_A_1 c i a2 h2 a3 h3 a4 h4 a5 h5 a6 h6 a7 h7 a8 h8 a9 h9 a10 h10 a11 h11 hc0 hc1 x0 x1 x2 x3 x4 x5 x6
    = k0_pay10 x0 x1 x2 := by
  unfold sout0_A_1
  rw [View.read_writes_eq_canon _ _ _ (scover0_A_1 c i a2 h2 a3 h3 a4 h4 a5 h5 a6 h6 a7 h7 a8 h8 a9 h9 a10 h10 a11 h11 hc0 hc1 x0 x1 x2 x3 x4 x5 x6)]
  unfold kernelRun0_A
  dsimp only
  sl_unfold_words
  rw [View.canon_unit_zero zero_off]
  unfold k0_pay1
  simp only [View.readAt_eq_ld, h2.read_unread, h3.read_unread, h4.read_unread, shapeCast_self,
    View.ld_unit_zero (S := S1024x2048) zero_off, View.ld_unit_zero (S := S2048x8) zero_off, View.ld_unit_zero (S := S1x8) zero_off]

/-- Case A, the accumulator: the first tile's part over the zero block. -/
theorem out_A (hc0 : cond0_0 i) (hc1 : ¬cond0_1 i) :
    out0_A_7 c i a2 h2 a3 h3 a4 h4 a5 h5 a6 h6 a7 h7 a8 h8 a9 h9 a10 h10 a11 h11 hc0 hc1 x0 x1 x2 x3 x4 x5 x6
    = k0_pay4 (k0_pay2 (k0_pay6 x0) (k0_pay9 x0 x1 x2)) x3 x4 k0_pay3 x5 := by
  unfold out0_A_7
  rw [View.read_writes_eq_canon _ _ _ (cover0_A_7 c i a2 h2 a3 h3 a4 h4 a5 h5 a6 h6 a7 h7 a8 h8 a9 h9 a10 h10 a11 h11 hc0 hc1 x0 x1 x2 x3 x4 x5 x6)]
  unfold kernelRun0_A
  dsimp only
  sl_unfold_words
  rw [View.canon_cons_unit_zero (S := S1024x2048) zero_off]
  simp only [View.readCov_unit_zero (S := S1024x2048) _ zero_off, View.readAt_eq_ld, h2.read_unread, h3.read_unread, h4.read_unread, h5.read_unread, h6.read_unread,
    h7.read_unread, View.ld_unit_zero (S := S1024x2048) zero_off, View.ld_unit_zero (S := S2048x8) zero_off,
    View.ld_unit_zero (S := S1x8) zero_off, View.ld_unit_zero (S := S2048x512) zero_off,
    View.ld_unit_zero (S := S1x512) zero_off, View.ld_unit_zero (S := S512x2048) zero_off]

/-- Case B, the accumulator: the tile's part added to what it held. -/
theorem out_B (hc0 : ¬cond0_0 i) (hc1 : ¬cond0_1 i) :
    out0_B_7 c i a2 h2 a3 h3 a4 h4 a5 h5 a6 h6 a7 h7 a8 h8 a9 h9 a10 h10 a11 h11 hc0 hc1 x0 x1 x2 x3 x4 x5 x6 acc bi gp
    = k0_pay4 bi x3 x4 acc x5 := by
  unfold out0_B_7
  rw [View.read_writes_eq_canon _ _ _ (cover0_B_7 c i a2 h2 a3 h3 a4 h4 a5 h5 a6 h6 a7 h7 a8 h8 a9 h9 a10 h10 a11 h11 hc0 hc1 x0 x1 x2 x3 x4 x5 x6 acc bi gp)]
  unfold kernelRun0_B
  dsimp only
  rw [View.canon_unit_zero zero_off]
  simp only [View.readAt_eq_ld, h5.read_unread, h6.read_unread, h7.read_unread, h9.read_unread, h10.read_unread,
    View.ld_unit_zero (S := S1024x2048) zero_off, View.ld_unit_zero (S := S2048x512) zero_off,
    View.ld_unit_zero (S := S1x512) zero_off, View.ld_unit_zero (S := S512x2048) zero_off]

/-- Case C, the output block: the last tile's part added, then the row block finished. -/
theorem out_C (hc0 : ¬cond0_0 i) (hc1 : cond0_1 i) :
    out0_C_7 c i a2 h2 a3 h3 a4 h4 a5 h5 a6 h6 a7 h7 a8 h8 a9 h9 a10 h10 a11 h11 hc0 hc1 x0 x1 x2 x3 x4 x5 x6 acc bi gp
    = k0_pay5 x0 (k0_pay4 bi x3 x4 acc x5) x6 gp := by
  unfold out0_C_7
  rw [View.read_writes_eq_canon _ _ _ (cover0_C_7 c i a2 h2 a3 h3 a4 h4 a5 h5 a6 h6 a7 h7 a8 h8 a9 h9 a10 h10 a11 h11 hc0 hc1 x0 x1 x2 x3 x4 x5 x6 acc bi gp)]
  unfold kernelRun0_C
  dsimp only
  sl_unfold_words
  rw [View.canon_cons_unit_zero (S := S1024x2048) zero_off]
  simp only [View.readCov_unit_zero (S := S1024x2048) _ zero_off, View.readAt_eq_ld, h2.read_unread, h5.read_unread, h6.read_unread,
    h7.read_unread, h8.read_unread, h9.read_unread, h10.read_unread, h11.read_unread,
    View.ld_unit_zero (S := S1024x2048) zero_off, View.ld_unit_zero (S := S2048x512) zero_off,
    View.ld_unit_zero (S := S1x512) zero_off, View.ld_unit_zero (S := S512x2048) zero_off,
    View.ld_unit_zero (S := S1x2048) zero_off, View.ld_unit_zero (S := S1024x1) zero_off]

end

end Cert.KernelIdeal.Cases

end
-- ==== Proof.KernelBlocks.lean ====
/-
  What each input window's block holds at a grid point: the point `t` is the pair of a row block `t / 16` and a feature
  tile `t % 16`, and a block's element is its array's at the index that the pair moves it to.
-/
module

public import proofs.«01_k».proof.Proof.Gen.KernelIdeal.Value
public import Idealize.ShloMosaic.Lib.Pointwise

@[expose] public section

set_option maxRecDepth 16384

noncomputable section

namespace Cert.KernelIdeal.Blocks

open Cert.KernelIdeal Cert.KernelIdeal.Gen Idealize.ShloMosaic Idealize.ShloMosaic.TcCoe

variable {F : FTy → Type} [FloatOps F] [Named F] (m : (ℓ : Loc nD τ sig) → Buf (Elt F) ℓ) (c : Dev nD)

/-- The block indices of the input windows, over the grid. -/
theorem index_facts : ∀ t : Fin cfg0.N,
    win0_0.index t = ![t.val / 16, 0] ∧ win0_1.index t = ![0, 0] ∧ win0_2.index t = ![0, 0] ∧ win0_3.index t = ![0, t.val % 16]
    ∧ win0_4.index t = ![0, t.val % 16] ∧ win0_5.index t = ![t.val % 16, 0] ∧ win0_6.index t = ![0, 0] :=
  (by decide +kernel : ∀ t : Fin grid0.N, _)

/-- A row of the row block. -/
def row (b : Fin 8) (r : Fin 1024) : Fin 8192 := ⟨1024 * b.val + r.val, by omega⟩
/-- A feature of the feature tile. -/
def feat (s : Fin 16) (f : Fin 512) : Fin 8192 := ⟨512 * s.val + f.val, by omega⟩
/-- The grid point of a row block and a feature tile. -/
def pt (b : Fin 8) (s : Fin 16) : Fin cfg0.N := ⟨16 * b.val + s.val, by have := N_0; have h : cfg0.N = 128 := this; omega⟩

theorem pt_div (b : Fin 8) (s : Fin 16) : (pt b s).val / 16 = b.val := by show (16 * b.val + s.val) / 16 = _; omega
theorem pt_mod (b : Fin 8) (s : Fin 16) : (pt b s).val % 16 = s.val := by show (16 * b.val + s.val) % 16 = _; omega

/-- An array at two indices with the same coordinates. -/
theorem apply_at {S : Shape} {α : Type} (A : S.Idx → α) {p q : S.Idx} (h : ∀ a, (p a).val = (q a).val) : A p = A q :=
  congrArg A (funext fun a => Fin.ext (h a))

/-- The block of rows. -/
theorem rows_at (b : Fin 8) (s : Fin 16) (r : Fin 1024) (k : Fin 2048) :
    (show Vec F S1024x2048 .f32 from iblk m c 0 (pt b s)) (ix2 r k) = (V m c main_v21 : Vec F S8192x2048 .f32) (ix2 (row b r) k) := by
  have hi := (index_facts (pt b s)).1
  exact apply_at (S := S8192x2048) (V m c main_v21) (p := ((cfg0.win 0).blk (pt b s)).view.emb (ix2 r k)) fun
    | ⟨0, _⟩ => by show win0_0.index (pt b s) 0 * 1024 + 1 * r.val = 1024 * b.val + r.val; rw [hi, ← pt_div b s]; simp; omega
    | ⟨1, _⟩ => by show win0_0.index (pt b s) 1 * 2048 + 1 * k.val = k.val; rw [hi]; simp

/-- The gate weights are one block. -/
theorem gate_weights_at (b : Fin 8) (s : Fin 16) (k : Fin 2048) (l : Fin 8) :
    (show Vec F S2048x8 .f32 from iblk m c 1 (pt b s)) (ix2 k l) = (V m c main_v12 : Vec F S2048x8 .f32) (ix2 k l) := by
  have hi := (index_facts (pt b s)).2.1
  exact apply_at (S := S2048x8) (V m c main_v12) (p := ((cfg0.win 1).blk (pt b s)).view.emb (ix2 k l)) fun
    | ⟨0, _⟩ => by show win0_1.index (pt b s) 0 * 2048 + 1 * k.val = k.val; rw [hi]; simp
    | ⟨1, _⟩ => by show win0_1.index (pt b s) 1 * 8 + 1 * l.val = l.val; rw [hi]; simp

/-- The gate biases are one block. -/
theorem gate_biases_at (b : Fin 8) (s : Fin 16) (l : Fin 8) :
    (show Vec F S1x8 .f32 from iblk m c 2 (pt b s)) (ix2 0 l) = (V m c main_v20 : Vec F S1x8 .f32) (ix2 0 l) := by
  have hi := (index_facts (pt b s)).2.2.1
  exact apply_at (S := S1x8) (V m c main_v20) (p := ((cfg0.win 2).blk (pt b s)).view.emb (ix2 0 l)) fun
    | ⟨0, _⟩ => by show win0_2.index (pt b s) 0 * 1 + 1 * 0 = 0; rw [hi]; simp
    | ⟨1, _⟩ => by show win0_2.index (pt b s) 1 * 8 + 1 * l.val = l.val; rw [hi]; simp

/-- The first weights' tile: its features' columns. -/
theorem first_weights_at (b : Fin 8) (s : Fin 16) (k : Fin 2048) (f : Fin 512) :
    (show Vec F S2048x512 .f32 from iblk m c 3 (pt b s)) (ix2 k f) = (V m c main_arg13 : Vec F S2048x8192 .f32) (ix2 k (feat s f)) := by
  have hi := (index_facts (pt b s)).2.2.2.1
  exact apply_at (S := S2048x8192) (V m c main_arg13) (p := ((cfg0.win 3).blk (pt b s)).view.emb (ix2 k f)) fun
    | ⟨0, _⟩ => by show win0_3.index (pt b s) 0 * 2048 + 1 * k.val = k.val; rw [hi]; simp
    | ⟨1, _⟩ => by show win0_3.index (pt b s) 1 * 512 + 1 * f.val = 512 * s.val + f.val; rw [hi, ← pt_mod b s]; simp; omega

/-- The first biases' tile: its features' entries. -/
theorem first_biases_at (b : Fin 8) (s : Fin 16) (f : Fin 512) :
    (show Vec F S1x512 .f32 from iblk m c 4 (pt b s)) (ix2 0 f) = (V m c main_v22 : Vec F S1x8192 .f32) (ix2 0 (feat s f)) := by
  have hi := (index_facts (pt b s)).2.2.2.2.1
  exact apply_at (S := S1x8192) (V m c main_v22) (p := ((cfg0.win 4).blk (pt b s)).view.emb (ix2 0 f)) fun
    | ⟨0, _⟩ => by show win0_4.index (pt b s) 0 * 1 + 1 * 0 = 0; rw [hi]; simp
    | ⟨1, _⟩ => by show win0_4.index (pt b s) 1 * 512 + 1 * f.val = 512 * s.val + f.val; rw [hi, ← pt_mod b s]; simp; omega

/-- The second weights' tile: its features' rows. -/
theorem second_weights_at (b : Fin 8) (s : Fin 16) (f : Fin 512) (l : Fin 2048) :
    (show Vec F S512x2048 .f32 from iblk m c 5 (pt b s)) (ix2 f l) = (V m c main_arg15 : Vec F S8192x2048 .f32) (ix2 (feat s f) l) := by
  have hi := (index_facts (pt b s)).2.2.2.2.2.1
  exact apply_at (S := S8192x2048) (V m c main_arg15) (p := ((cfg0.win 5).blk (pt b s)).view.emb (ix2 f l)) fun
    | ⟨0, _⟩ => by show win0_5.index (pt b s) 0 * 512 + 1 * f.val = 512 * s.val + f.val; rw [hi, ← pt_mod b s]; simp; omega
    | ⟨1, _⟩ => by show win0_5.index (pt b s) 1 * 2048 + 1 * l.val = l.val; rw [hi]; simp

/-- The second biases are one block. -/
theorem second_biases_at (b : Fin 8) (s : Fin 16) (l : Fin 2048) :
    (show Vec F S1x2048 .f32 from iblk m c 6 (pt b s)) (ix2 0 l) = (V m c main_v23 : Vec F S1x2048 .f32) (ix2 0 l) := by
  have hi := (index_facts (pt b s)).2.2.2.2.2.2
  exact apply_at (S := S1x2048) (V m c main_v23) (p := ((cfg0.win 6).blk (pt b s)).view.emb (ix2 0 l)) fun
    | ⟨0, _⟩ => by show win0_6.index (pt b s) 0 * 1 + 1 * 0 = 0; rw [hi]; simp
    | ⟨1, _⟩ => by show win0_6.index (pt b s) 1 * 2048 + 1 * l.val = l.val; rw [hi]; simp

end Cert.KernelIdeal.Blocks

end
-- ==== Proof.Consts.lean ====
/-
  The values, at the extended reals, of the float constants the two programs print, and of the kernel's named one.
-/
module

public import proofs.«01_k».proof.Proof.Gen.KernelIdeal
public import Idealize.ShloMosaic.Lib.Pointwise

@[expose] public section

noncomputable section

namespace Cert.Consts

open Idealize.ShloMosaic

/-- The pattern `0x3F000000` denotes one half. -/
theorem half : Ideal.ofBits .f32 0x3F000000#32 = ((1 / 2 : ℝ) : EReal) := by
  simp [Ideal.ofBits, Ideal.ieee, -EReal.coe_mul]; norm_num
/-- The pattern `0x40000000` denotes two. -/
theorem two : Ideal.ofBits .f32 0x40000000#32 = ((2 : ℝ) : EReal) := by
  simp [Ideal.ofBits, Ideal.ieee, -EReal.coe_mul]; norm_num
/-- The pattern `0x40800000` denotes four. -/
theorem four : Ideal.ofBits .f32 0x40800000#32 = ((4 : ℝ) : EReal) := by
  simp [Ideal.ofBits, Ideal.ieee, -EReal.coe_mul]; norm_num
/-- The pattern `0x45000000` denotes 2048. -/
theorem rows : Ideal.ofBits .f32 0x45000000#32 = ((2048 : ℝ) : EReal) := by
  simp [Ideal.ofBits, Ideal.ieee, -EReal.coe_mul]; norm_num
/-- The pattern `0x3A000000` denotes 1/2048, exactly. -/
theorem inv_rows : Ideal.ofBits .f32 0x3A000000#32 = ((1 / 2048 : ℝ) : EReal) := by
  simp [Ideal.ofBits, Ideal.ieee, -EReal.coe_mul]; norm_num
/-- The pattern `0x34000000` denotes 2⁻²³, exactly. -/
theorem eps : Ideal.ofBits .f32 0x34000000#32 = ((1 / 8388608 : ℝ) : EReal) := by
  simp [Ideal.ofBits, Ideal.ieee, -EReal.coe_mul]; norm_num

/-- The kernel's named constant is the reciprocal of the root of two. -/
theorem inv_sqrt_two : Named.named (F := Ideal) Cert.KernelIdeal.κ "inv_sqrt_2" (φ := .f32) 0x3F3504F3#32
    = (((Real.sqrt 2)⁻¹ : ℝ) : EReal) :=
  IdealRules.named_const.ideal_named_scalar _ _ _ _ rfl

end Cert.Consts

end
-- ==== Proof.Row.lean ====
/-
  The mathematics of one row of the kernel at the extended reals, as plain functions of the row, the weights and the
  biases: the eight sigmoid lanes, the two gates, a hidden value, the GELU that the kernel writes.
-/
module

public import Idealize.ShloMosaic.Lib.IdealHost

@[expose] public section

noncomputable section

namespace Cert.Row

open Idealize.ShloMosaic

/-- An array's element, as an extended real. -/
abbrev rd {S : Shape} (f : Vec Ideal S .f32) (i : S.Idx) : EReal := f i

/-- The scale of a row: the reciprocal root of its mean square and the small constant. -/
def scale (x : Fin 2048 → EReal) : EReal :=
  Ideal.rsqrt ((∑ k, x k * x k) * ((1 / 2048 : ℝ) : EReal) + ((1 / 8388608 : ℝ) : EReal))

/-- The sigmoid. -/
def sigmoid (l : EReal) : EReal := Ideal.div 1 (1 + Ideal.exp (-l))

/-- One sigmoid lane of a row: the column `w` of the gate weights and the bias `c`. -/
def lane (x w : Fin 2048 → EReal) (c : EReal) : EReal := sigmoid (scale x * (∑ k, x k * w k) + c)

/-- One sigmoid of a gate as the reference writes it: the scaled row times the column `w`, the column's bias `b`, the
    gate's factor `a` and its own bias `c`. -/
def gate (x w : Fin 2048 → EReal) (a b c : EReal) : EReal := sigmoid (a * ((∑ k, x k * scale x * w k) + b) + c)

/-- The GELU as the kernel writes it, with the error function. -/
def gelu (h : EReal) : EReal := ((1 / 2 : ℝ) : EReal) * h * (1 + Ideal.erf (h * (((Real.sqrt 2)⁻¹ : ℝ) : EReal)))

/-- A hidden value: the gated row times a column of the first weights, and its bias. -/
def hidden (x : Fin 2048 → EReal) (g : EReal) (w : Fin 2048 → EReal) (b : EReal) : EReal := (∑ k, x k * g * w k) + b

/-- An element of a result row: four times the row, and the network's row with its bias, times the output gate. -/
def out (x : Fin 2048 → EReal) (g p : EReal) (w1 : Fin 2048 → Fin 8192 → EReal) (b1 : Fin 8192 → EReal)
    (w2 : Fin 8192 → Fin 2048 → EReal) (b2 : Fin 2048 → EReal) (l : Fin 2048) : EReal :=
  ((4 : ℝ) : EReal) * x l + ((∑ f, gelu (hidden x g (fun k => w1 k f) (b1 f)) * w2 f l) + b2 l) * p

end Cert.Row

end
-- ==== Proof.KernelPayloads.lean ====
/-
  The kernel's payloads at the extended reals, read at an index of their block.
-/
module

public import proofs.«01_k».proof.Proof.Gen.KernelIdeal.Skeleton
public import proofs.«01_k».proof.Proof.Consts
public import proofs.«01_k».proof.Proof.Row
public import Idealize.ShloMosaic.Lib.Pointwise
public import Idealize.ShloMosaic.Lib.KernelVsHost

@[expose] public section

set_option maxRecDepth 16384

noncomputable section

namespace Cert.KernelIdeal.Payloads

open Cert.KernelIdeal Cert.KernelIdeal.Gen Idealize.ShloMosaic

/-- A sigmoid lane of a block's row. -/
theorem lane_at (x0 : Vec Ideal S1024x2048 .f32) (x1 : Vec Ideal S2048x8 .f32) (x2 : Vec Ideal S1x8 .f32) (r : Fin 1024) (l : Fin 8) :
    k0_pay7 (F := Ideal) x0 x1 x2 (ix2 r l) = Row.lane (fun k => x0 (ix2 r k)) (fun k => x1 (ix2 k l)) (x2 (ix2 0 l)) := by
  pointwise [k0_pay7, k0_pay6]
  simp only [Consts.inv_rows, Consts.eps]
  unfold Row.lane Row.sigmoid Row.scale
  rw [zero_sub]

/-- The lanes' mask: one on the first four lanes, zero on the others. -/
theorem mask_at (r : Fin 1024) (l : Fin 8) : k0_pay8 (F := Ideal) (ix2 r l) = if l.val < 4 then 1 else 0 := by
  pointwise [k0_pay8]
  have key : ∀ l : Fin 8, (BitVec.setWidth 32 (IntOp.cmpi CmpIPredicate.slt (BitVec.ofNat 32 l.val) 4#32)).toInt
      = if l.val < 4 then 1 else 0 := by decide
  show (((BitVec.setWidth 32 (IntOp.cmpi CmpIPredicate.slt (BitVec.ofNat 32 l.val) 4#32)).toInt : ℝ) : EReal) = _
  rw [key l]
  split_ifs <;> simp

/-- The input gate of a block's row. -/
theorem pre_at (x0 : Vec Ideal S1024x2048 .f32) (x1 : Vec Ideal S2048x8 .f32) (x2 : Vec Ideal S1x8 .f32) (r : Fin 1024) :
    k0_pay9 (F := Ideal) x0 x1 x2 (ix2 r 0)
    = ∑ i : Fin 4, k0_pay7 (F := Ideal) x0 x1 x2 (ix2 r (Fin.castAdd 4 i)) := by
  pointwise [k0_pay9]
  simp only [mask_at]
  rw [Fin.sum_univ_eight, Fin.sum_univ_four]
  simp

/-- The output gate of a block's row. -/
theorem post_at (x0 : Vec Ideal S1024x2048 .f32) (x1 : Vec Ideal S2048x8 .f32) (x2 : Vec Ideal S1x8 .f32) (r : Fin 1024) :
    k0_pay10 (F := Ideal) x0 x1 x2 (ix2 r 0)
    = ((2 : ℝ) : EReal) * ∑ i : Fin 4, k0_pay7 (F := Ideal) x0 x1 x2 (ix2 r (Fin.natAdd 4 i)) := by
  pointwise [k0_pay10]
  simp only [mask_at, Consts.two]
  rw [Fin.sum_univ_eight, Fin.sum_univ_four]
  have h11 : (1 : EReal) - 1 = 0 := by rw [← EReal.coe_one, ← EReal.coe_sub, sub_self, EReal.coe_zero]
  simp [h11]

/-- A kept row: the row times its input gate. -/
theorem rows_at (x0 : Vec Ideal S1024x2048 .f32) (g : Vec Ideal S1024x1 .f32) (r : Fin 1024) (k : Fin 2048) :
    k0_pay2 (F := Ideal) (k0_pay6 x0) g (ix2 r k) = x0 (ix2 r k) * g (ix2 r 0) := by
  pointwise [k0_pay2, k0_pay6]

/-- The accumulator's first block is zero. -/
theorem zero_at (r : Fin 1024) (l : Fin 2048) : k0_pay3 (F := Ideal) (ix2 r l) = 0 := by
  pointwise [k0_pay3]

/-- A tile's step: its 512 hidden values' part of the network is added to the accumulator. -/
theorem tile_at (bi : Vec Ideal S1024x2048 .bf16) (w1 : Vec Ideal S2048x512 .f32) (b1 : Vec Ideal S1x512 .f32)
    (acc : Vec Ideal S1024x2048 .f32) (w2 : Vec Ideal S512x2048 .f32) (r : Fin 1024) (l : Fin 2048) :
    k0_pay4 (F := Ideal) bi w1 b1 acc w2 (ix2 r l)
    = acc (ix2 r l) + ∑ f : Fin 512, Row.gelu ((∑ k : Fin 2048, bi (ix2 r k) * w1 (ix2 k f)) + b1 (ix2 0 f)) * w2 (ix2 f l) := by
  pointwise [k0_pay4]
  simp only [Consts.half, Consts.inv_sqrt_two]
  rfl

/-- The last step: four times the row, and the network's row with its bias, gated. -/
theorem final_at (x0 acc : Vec Ideal S1024x2048 .f32) (b2 : Vec Ideal S1x2048 .f32) (gp : Vec Ideal S1024x1 .f32) (r : Fin 1024) (l : Fin 2048) :
    k0_pay5 (F := Ideal) x0 acc b2 gp (ix2 r l)
    = ((4 : ℝ) : EReal) * x0 (ix2 r l) + (acc (ix2 r l) + b2 (ix2 0 l)) * gp (ix2 r 0) := by
  pointwise [k0_pay5]
  simp only [Consts.four]

end Cert.KernelIdeal.Payloads

end
-- ==== Proof.KernelFold.lean ====
/-
  The kernel's result at an index, over the arrays that the region finds: the fold over a row block's sixteen feature
  tiles in closed form.
-/
module

public import proofs.«01_k».proof.Proof.KernelCases
public import proofs.«01_k».proof.Proof.KernelBlocks
public import proofs.«01_k».proof.Proof.KernelPayloads
public import Idealize.ShloMosaic.Lib.Pipeline.ValueKit.Acc

@[expose] public section

set_option maxRecDepth 16384

noncomputable section

namespace Cert.KernelIdeal.Fold

open Cert.KernelIdeal Cert.KernelIdeal.Gen Cert.KernelIdeal.Value Idealize.ShloMosaic Idealize.ShloMosaic.TcCoe Blocks

section
variable {F : FTy → Type} [FloatOps F] [Named F] (m : (ℓ : Loc nD τ sig) → Buf (Elt F) ℓ) (c : Dev nD)

/-- What the points of row block `b` up to tile `s` leave: the accumulator, the kept rows, the output gate. -/
def st (b : Fin 8) (s : Fin 16) : Vec F S1024x2048 .f32 × Vec F S1024x2048 .bf16 × Vec F S1024x1 .f32 :=
  outsAt0 m c (pt b s).val (pt b s).isLt

/-- After a row block's first tile. -/
theorem st_first (b : Fin 8) : st m c b 0
    = (k0_pay4 (k0_pay2 (k0_pay6 (iblk m c 0 (pt b 0))) (k0_pay9 (iblk m c 0 (pt b 0)) (iblk m c 1 (pt b 0)) (iblk m c 2 (pt b 0))))
        (iblk m c 3 (pt b 0)) (iblk m c 4 (pt b 0)) k0_pay3 (iblk m c 5 (pt b 0)),
      k0_pay2 (k0_pay6 (iblk m c 0 (pt b 0))) (k0_pay9 (iblk m c 0 (pt b 0)) (iblk m c 1 (pt b 0)) (iblk m c 2 (pt b 0))),
      k0_pay10 (iblk m c 0 (pt b 0)) (iblk m c 1 (pt b 0)) (iblk m c 2 (pt b 0))) := by
  have hm := pt_mod b 0
  have e := outsAt0_A m c (pt b 0) hm (by rw [hm]; decide)
  rw [Cases.out_A, Cases.rows_A, Cases.gate_A] at e
  exact e

/-- After a tile that is neither the first nor the last. -/
theorem st_next (b : Fin 8) (s t : Fin 16) (ht : t.val = s.val + 1) (hl : t.val ≠ 15) : st m c b t
    = (k0_pay4 (st m c b s).2.1 (iblk m c 3 (pt b t)) (iblk m c 4 (pt b t)) (st m c b s).1 (iblk m c 5 (pt b t)),
      (st m c b s).2.1, (st m c b s).2.2) := by
  have hm := pt_mod b t
  have e := outsAt0_B m c (pt b t) (by rw [hm]; omega) (by rw [hm]; exact hl)
  rw [Cases.out_B] at e
  have hs : ∀ h, outsAt0 m c ((pt b t).val - 1) h = st m c b s := by
    have hv : (pt b t).val - 1 = (pt b s).val := by show 16 * b.val + t.val - 1 = 16 * b.val + s.val; omega
    rw [hv]; exact fun _ => rfl
  rw [hs] at e
  exact e

/-- After the last tile. -/
theorem st_last (b : Fin 8) : (st m c b 15).1
    = k0_pay5 (iblk m c 0 (pt b 15)) (k0_pay4 (st m c b 14).2.1 (iblk m c 3 (pt b 15)) (iblk m c 4 (pt b 15)) (st m c b 14).1 (iblk m c 5 (pt b 15)))
        (iblk m c 6 (pt b 15)) (st m c b 14).2.2 := by
  have hm := pt_mod b 15
  have e := congrArg Prod.fst (outsAt0_C m c (pt b 15) (by rw [hm]; decide) hm)
  dsimp only at e
  rw [Cases.out_C] at e
  exact e

/-- The kernel's array at an index is the last tile's accumulator, at the index in its row block. -/
theorem result_eq (b : Fin 8) (r : Fin 1024) (l : Fin 2048) : G7 m c (ix2 (row b r) l) = (st m c b 15).1 (ix2 r l) := by
  have hrow : (row b r).val = 1024 * b.val + r.val := rfl
  have hrun : run7Of (ix2 (row b r) l) = b.val := by
    show 1 * ((row b r).val / 1024 - 0) + 1 * (l.val / 2048 - 0) = b.val
    rw [hrow]; omega
  have hpt : pt7Of (ix2 (row b r) l) = (pt b 15).val := by show 16 * run7Of (ix2 (row b r) l) + 15 = 16 * b.val + 15; rw [hrun]
  have hloc : loc7Of (ix2 (row b r) l) = ix2 r l := funext fun a => Fin.ext (match a with
    | ⟨0, _⟩ => by show (row b r).val % 1024 = r.val; rw [hrow]; omega
    | ⟨1, _⟩ => by show l.val % 2048 = l.val; omega)
  unfold G7
  rw [dif_pos (by rw [hpt]; exact (pt b 15).isLt), hloc, ← outsAt0_sweep m c _ (by rw [hpt]; exact (pt b 15).isLt)]
  have : ∀ n h, n = (pt b 15).val → outsAt0 m c n h = st m c b 15 := fun n h e => by subst e; rfl
  rw [this _ _ hpt]

end

variable (m : (ℓ : Loc nD τ sig) → Buf (Elt Ideal) ℓ) (c : Dev nD)

/-- A row of the input, as the region finds it. -/
def xrow (R : Fin 8192) : Fin 2048 → EReal := fun k => (V m c main_v21 : Vec Ideal S8192x2048 .f32) (ix2 R k)
/-- A sigmoid lane of a row. -/
def lane (R : Fin 8192) (l : Fin 8) : EReal :=
  Row.lane (xrow m c R) (fun k => (V m c main_v12 : Vec Ideal S2048x8 .f32) (ix2 k l)) ((V m c main_v20 : Vec Ideal S1x8 .f32) (ix2 0 l))
/-- The input gate of a row. -/
def pre (R : Fin 8192) : EReal := ∑ i : Fin 4, lane m c R (Fin.castAdd 4 i)
/-- The output gate of a row. -/
def post (R : Fin 8192) : EReal := ((2 : ℝ) : EReal) * ∑ i : Fin 4, lane m c R (Fin.natAdd 4 i)
/-- A feature's part of the network's output. -/
def part (R : Fin 8192) (l : Fin 2048) (f : Fin 8192) : EReal :=
  Row.gelu (Row.hidden (xrow m c R) (pre m c R) (fun k => (V m c main_arg13 : Vec Ideal S2048x8192 .f32) (ix2 k f))
    ((V m c main_v22 : Vec Ideal S1x8192 .f32) (ix2 0 f))) * (V m c main_arg15 : Vec Ideal S8192x2048 .f32) (ix2 f l)
/-- A tile's part of the network's output (nothing past the last tile). -/
def tile (b : Fin 8) (r : Fin 1024) (l : Fin 2048) (s : ℕ) : EReal :=
  if h : s < 16 then ∑ f : Fin 512, part m c (row b r) l (feat ⟨s, h⟩ f) else 0

/-- The lanes at a point are the row's. -/
theorem lane_eq (b : Fin 8) (s : Fin 16) (r : Fin 1024) (l : Fin 8) :
    k0_pay7 (F := Ideal) (iblk m c 0 (pt b s)) (iblk m c 1 (pt b s)) (iblk m c 2 (pt b s)) (ix2 r l) = lane m c (row b r) l := by
  refine (Payloads.lane_at _ _ _ r l).trans ?_
  unfold lane xrow
  exact congr (congrArg₂ Row.lane (funext fun k => rows_at m c b s r k) (funext fun k => gate_weights_at m c b s k l))
    (gate_biases_at m c b s l)

/-- A tile's step at a point, over rows that are kept. -/
theorem step_eq (b : Fin 8) (s : Fin 16) (bi : Vec Ideal S1024x2048 .bf16) (acc : Vec Ideal S1024x2048 .f32) (r : Fin 1024)
    (l : Fin 2048) (hbi : ∀ k, bi (ix2 r k) = xrow m c (row b r) k * pre m c (row b r)) :
    k0_pay4 (F := Ideal) bi (iblk m c 3 (pt b s)) (iblk m c 4 (pt b s)) acc (iblk m c 5 (pt b s)) (ix2 r l)
    = acc (ix2 r l) + tile m c b r l s.val := by
  refine (Payloads.tile_at _ _ _ _ _ r l).trans ?_
  unfold tile
  rw [dif_pos s.isLt]
  refine congrArg (acc (ix2 r l) + ·) (Finset.sum_congr rfl fun f _ => ?_)
  unfold part Row.hidden
  refine congrArg₂ (· * ·) (congrArg Row.gelu (congrArg₂ (· + ·) (Finset.sum_congr rfl fun k _ => ?_) ?_)) ?_
  · exact congrArg₂ (· * ·) (hbi k) (first_weights_at m c b s k f)
  · exact first_biases_at m c b s f
  · exact second_weights_at m c b s f l

/-- What is kept and accumulated after tile `s`, the last one excepted. -/
theorem st_at (b : Fin 8) (r : Fin 1024) : ∀ (s : ℕ) (h : s < 15),
    (∀ k, (st m c b ⟨s, by omega⟩).2.1 (ix2 r k) = xrow m c (row b r) k * pre m c (row b r))
    ∧ (st m c b ⟨s, by omega⟩).2.2 (ix2 r 0) = post m c (row b r)
    ∧ ∀ l, (st m c b ⟨s, by omega⟩).1 (ix2 r l) = ∑ q ∈ Finset.range (s + 1), tile m c b r l q := by
  intro s
  induction s with
  | zero =>
    intro h
    have e := st_first m c b
    have hk : ∀ k, (k0_pay2 (F := Ideal) (k0_pay6 (iblk m c 0 (pt b 0))) (k0_pay9 (iblk m c 0 (pt b 0)) (iblk m c 1 (pt b 0)) (iblk m c 2 (pt b 0)))) (ix2 r k)
        = xrow m c (row b r) k * pre m c (row b r) := fun k => by
      refine (Payloads.rows_at _ _ r k).trans (congrArg₂ (· * ·) (rows_at m c b 0 r k) ?_)
      exact (Payloads.pre_at _ _ _ r).trans (Finset.sum_congr rfl fun i _ => lane_eq m c b 0 r _)
    refine ⟨fun k => ?_, ?_, fun l => ?_⟩
    · show (st m c b 0).2.1 _ = _
      rw [e]; exact hk k
    · show (st m c b 0).2.2 _ = _
      rw [e]
      refine (Payloads.post_at _ _ _ r).trans ?_
      exact congrArg _ (Finset.sum_congr rfl fun i _ => lane_eq m c b 0 r _)
    · show (st m c b 0).1 _ = _
      rw [e]
      refine (step_eq m c b 0 _ _ r l hk).trans ?_
      rw [Payloads.zero_at, zero_add, Finset.sum_range_one]
      rfl
  | succ s ih =>
    intro h
    obtain ⟨h1, h2, h3⟩ := ih (by omega)
    have e := st_next m c b ⟨s, by omega⟩ ⟨s + 1, by omega⟩ rfl (by show s + 1 ≠ 15; omega)
    rw [e]
    refine ⟨h1, h2, fun l => ?_⟩
    refine (step_eq m c b ⟨s + 1, by omega⟩ _ _ r l h1).trans ?_
    rw [h3 l, Finset.sum_range_succ _ (s + 1)]

/-- THE KERNEL'S RESULT at an index: four times the row, and the network's row with its bias, gated. -/
theorem result_at (b : Fin 8) (r : Fin 1024) (l : Fin 2048) :
    G7 m c (ix2 (row b r) l) = ((4 : ℝ) : EReal) * xrow m c (row b r) l
      + ((∑ f : Fin 8192, part m c (row b r) l f) + (V m c main_v23 : Vec Ideal S1x2048 .f32) (ix2 0 l)) * post m c (row b r) := by
  obtain ⟨h1, h2, h3⟩ := st_at m c b r 14 (by omega)
  rw [result_eq, st_last]
  refine (Payloads.final_at _ _ _ _ r l).trans ?_
  refine congrArg₂ (· + ·) (congrArg _ (rows_at m c b 15 r l)) (congrArg₂ (· * ·) (congrArg₂ (· + ·) ?_ (second_biases_at m c b 15 l)) h2)
  refine (step_eq m c b 15 _ _ r l h1).trans ?_
  have hsum : ∑ q ∈ Finset.range 16, tile m c b r l q = ∑ f : Fin 8192, part m c (row b r) l f := by
    rw [Finset.sum_range]
    refine Eq.trans (Finset.sum_congr rfl fun s _ => dif_pos s.isLt) ?_
    refine Fin.sum_mul_add_congr (S := 16) (n := 512) (f := part m c (row b r) l) fun s k hl => congrArg _ (Fin.ext ?_)
    show 512 * s.val + k.val = s.val * 512 + k.val
    omega
  rw [← hsum, Finset.sum_range_succ _ 15]
  exact congrArg (· + _) (h3 l)

/-- The same at any row, as the row's mathematics. -/
theorem result_at_row (R : Fin 8192) (l : Fin 2048) :
    G7 m c (ix2 R l) = Row.out (xrow m c R) (pre m c R) (post m c R) (fun k f => (V m c main_arg13 : Vec Ideal S2048x8192 .f32) (ix2 k f))
      (fun f => (V m c main_v22 : Vec Ideal S1x8192 .f32) (ix2 0 f)) (fun f l => (V m c main_arg15 : Vec Ideal S8192x2048 .f32) (ix2 f l))
      (fun l => (V m c main_v23 : Vec Ideal S1x2048 .f32) (ix2 0 l)) l := by
  have e : R = row ⟨R.val / 1024, by omega⟩ ⟨R.val % 1024, by omega⟩ := Fin.ext (by show R.val = 1024 * (R.val / 1024) + R.val % 1024; omega)
  rw [e]
  exact result_at m c _ _ l

end Cert.KernelIdeal.Fold

end
-- ==== Proof.KernelHost.lean ====
/-
  What the host's operations before the region leave in the arrays that the region reads, at an index, over the
  arguments.
-/
module

public import proofs.«01_k».proof.Proof.KernelFold

@[expose] public section

set_option maxRecDepth 16384

noncomputable section

namespace Cert.KernelIdeal.Host

open Cert.KernelIdeal Cert.KernelIdeal.Gen Cert.Row Idealize.ShloMosaic Idealize.ShloMosaic.TcCoe

variable (m : (ℓ : Loc nD τ sig) → Buf (Elt Ideal) ℓ) (c : Dev nD)

/-- The rows: the batches' rows, one batch after another. -/
theorem rows_at (R : Fin 8192) (k : Fin 2048) : (V m c main_v21 : Vec Ideal S8192x2048 .f32) (ix2 R k)
    = (m ((c : Thread nD τ).loc main_arg0) : Vec Ideal S4x2048x2048 .f32) (ix3 ⟨R.val / 2048, by omega⟩ ⟨R.val % 2048, by omega⟩ k) := by
  unfold_abbrev_sides
  after_results
  pointwise

/-- The first biases, as a row. -/
theorem first_biases_at (f : Fin 8192) : (V m c main_v22 : Vec Ideal S1x8192 .f32) (ix2 0 f)
    = (m ((c : Thread nD τ).loc main_arg14) : Vec Ideal S8192 .f32) (ix1 f) := by
  unfold_abbrev_sides
  after_results
  pointwise

/-- The second biases, as a row. -/
theorem second_biases_at (l : Fin 2048) : (V m c main_v23 : Vec Ideal S1x2048 .f32) (ix2 0 l)
    = (m ((c : Thread nD τ).loc main_arg16) : Vec Ideal S2048 .f32) (ix1 l) := by
  unfold_abbrev_sides
  after_results
  pointwise

/-- The bias of a lane: the input gate's on the first four lanes, the output gate's on the others. -/
theorem gate_biases_at (l : Fin 8) : (V m c main_v20 : Vec Ideal S1x8 .f32) (ix2 0 l)
    = if h : l.val < 4 then
        rd (S := S1) (m ((c : Thread nD τ).loc main_arg7)) (ix1 0) * rd (S := S4) (m ((c : Thread nD τ).loc main_arg2)) (ix1 ⟨l.val, h⟩)
          + rd (S := S4) (m ((c : Thread nD τ).loc main_arg10)) (ix1 ⟨l.val, h⟩)
      else
        rd (S := S1) (m ((c : Thread nD τ).loc main_arg8)) (ix1 0) * rd (S := S4) (m ((c : Thread nD τ).loc main_arg4)) (ix1 ⟨l.val - 4, by omega⟩)
          + rd (S := S4) (m ((c : Thread nD τ).loc main_arg11)) (ix1 ⟨l.val - 4, by omega⟩) := by
  unfold_abbrev_sides
  after_results
  pointwise

/-- A lane's weights: the four stretches of the gate's projection added, times the gate's factor. -/
theorem gate_weights_at (k : Fin 2048) (l : Fin 8) : (V m c main_v12 : Vec Ideal S2048x8 .f32) (ix2 k l)
    = if h : l.val < 4 then
        rd (S := S1) (m ((c : Thread nD τ).loc main_arg7)) (ix1 0)
          * ∑ q : Fin 4, rd (S := S4x8192) (m ((c : Thread nD τ).loc main_arg1)) (ix2 ⟨l.val, h⟩ ⟨q.val * 2048 + k.val, by omega⟩)
      else
        rd (S := S1) (m ((c : Thread nD τ).loc main_arg8)) (ix1 0)
          * ∑ q : Fin 4, rd (S := S4x8192) (m ((c : Thread nD τ).loc main_arg3)) (ix2 ⟨l.val - 4, by omega⟩ ⟨q.val * 2048 + k.val, by omega⟩) := by
  unfold_abbrev_sides
  after_results
  pointwise

end Cert.KernelIdeal.Host

end
-- ==== Proof.Reals.lean ====
/-
  Facts on extended reals that are real numbers or positive real numbers.
-/
module

public import Idealize.ShloMosaic.Lib.IdealHost

@[expose] public section

noncomputable section

namespace Cert.Reals

open Idealize.ShloMosaic

/-- `x` is a real number. -/
def IsReal (x : EReal) : Prop := ∃ r : ℝ, x = (r : EReal)
/-- `x` is a positive real number. -/
def IsPos (x : EReal) : Prop := ∃ r : ℝ, 0 < r ∧ x = (r : EReal)

/-- A sum of real numbers, read in the extended reals, is the sum of their readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- What reads as an extended real whose absolute value is below the infinity is a real number. -/
theorem IsReal.of_abs_lt {x : EReal} (h : max x (-x) < ⊤) : IsReal x := by
  induction x with
  | bot => simp at h
  | top => simp at h
  | coe r => exact ⟨r, rfl⟩

/-- What equals a real number is one. -/
theorem IsReal.of_eq {x y : EReal} (h : IsReal x) (e : y = x) : IsReal y := e ▸ h
theorem IsReal.coe (r : ℝ) : IsReal (r : EReal) := ⟨r, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sum {ι : Type*} {s : Finset ι} {f : ι → EReal} (h : ∀ i, IsReal (f i)) : IsReal (∑ i ∈ s, f i) := by
  choose g hg using h
  exact ⟨∑ i ∈ s, g i, by rw [coe_sum]; exact Finset.sum_congr rfl fun i _ => hg i⟩

theorem IsPos.isReal {x : EReal} (h : IsPos x) : IsReal x := let ⟨r, _, e⟩ := h; ⟨r, e⟩
/-- The exponential of a real number is positive. -/
theorem IsReal.exp {x : EReal} (h : IsReal x) : IsPos (Ideal.exp x) := by
  obtain ⟨r, rfl⟩ := h; exact ⟨Real.exp r, Real.exp_pos r, rfl⟩
/-- A sum of positive numbers, over an index set that is not empty, is positive. -/
theorem IsPos.sum {ι : Type*} [Fintype ι] [Nonempty ι] {f : ι → EReal} (h : ∀ i, IsPos (f i)) : IsPos (∑ i, f i) := by
  choose g hp hg using h
  exact ⟨∑ i, g i, Finset.sum_pos (fun i _ => hp i) Finset.univ_nonempty,
    by rw [coe_sum]; exact Finset.sum_congr rfl fun i _ => hg i⟩
/-- A quotient of positive numbers is positive. -/
theorem IsPos.div {x y : EReal} (hx : IsPos x) (hy : IsPos y) : IsPos (Ideal.div x y) := by
  obtain ⟨a, ha, rfl⟩ := hx; obtain ⟨b, hb, rfl⟩ := hy
  exact ⟨a * (1 / b), by positivity, by rw [Ideal.div_coe hb.ne', EReal.coe_mul]⟩

/-- Positive numbers, each divided by the sum of them all, sum to one. -/
theorem sum_div_sum {ι : Type*} [Fintype ι] [Nonempty ι] {f : ι → EReal} (h : ∀ i, IsPos (f i)) :
    ∑ i, Ideal.div (f i) (∑ k, f k) = ((1 : ℝ) : EReal) := by
  choose g hp hg using h
  have hs : (0 : ℝ) < ∑ i, g i := Finset.sum_pos (fun i _ => hp i) Finset.univ_nonempty
  have e : ∑ k, f k = ((∑ k, g k : ℝ) : EReal) := by rw [coe_sum]; exact Finset.sum_congr rfl fun i _ => hg i
  rw [e]
  have e2 : ∀ i, Ideal.div (f i) ((∑ k, g k : ℝ) : EReal) = ((g i * (1 / ∑ k, g k) : ℝ) : EReal) := fun i => by
    rw [hg i, Ideal.div_coe hs.ne', EReal.coe_mul]
  rw [Finset.sum_congr rfl fun i _ => e2 i, ← coe_sum, ← Finset.sum_mul, mul_one_div_cancel hs.ne']

/-- A real factor goes into a sum of a real number and any extended real. -/
theorem mul_add_real {a t : EReal} (ha : IsReal a) (ht : IsReal t) (b : EReal) : a * (t + b) = a * t + a * b := by
  obtain ⟨a, rfl⟩ := ha; obtain ⟨t, rfl⟩ := ht
  induction b with
  | coe b => exact_mod_cast mul_add a t b
  | bot =>
    rw [EReal.add_bot, ← EReal.coe_mul]
    rcases lt_trichotomy a 0 with h | h | h
    · rw [EReal.coe_mul_bot_of_neg h, EReal.coe_add_top]
    · subst h; simp
    · rw [EReal.coe_mul_bot_of_pos h, EReal.add_bot]
  | top =>
    rw [EReal.coe_add_top, ← EReal.coe_mul]
    rcases lt_trichotomy a 0 with h | h | h
    · rw [EReal.coe_mul_top_of_neg h, EReal.add_bot]
    · subst h; simp
    · rw [EReal.coe_mul_top_of_pos h, EReal.coe_add_top]

/-- A logit in the kernel's order is the reference's: the scale of the row stands before the sum or inside it, the gate's
    factor inside the weights or before the whole. The biases may be infinite. -/
theorem logit_eq {n : ℕ} {r a : EReal} {x w : Fin n → EReal} (hr : IsReal r) (ha : IsReal a) (hx : ∀ k, IsReal (x k))
    (hw : ∀ k, IsReal (w k)) (b c : EReal) :
    r * (∑ k, x k * (a * w k)) + (a * b + c) = a * ((∑ k, x k * r * w k) + b) + c := by
  have ht : IsReal (∑ k, x k * r * w k) := IsReal.sum fun k => ((hx k).mul hr).mul (hw k)
  rw [mul_add_real ha ht, add_assoc]
  congr 1
  obtain ⟨r, rfl⟩ := hr; obtain ⟨a, rfl⟩ := ha
  choose x' hx' using hx
  choose w' hw' using hw
  simp only [hx', hw', ← EReal.coe_mul, ← coe_sum, Finset.mul_sum]
  exact congrArg _ (Finset.sum_congr rfl fun k _ => by ring)

/-- The reciprocal root of a positive number is a real number. -/
theorem IsPos.rsqrt {x : EReal} (h : IsPos x) : IsReal (Ideal.rsqrt x) := by
  obtain ⟨r, hr, rfl⟩ := h
  exact ⟨(Real.sqrt r)⁻¹, by show (if r < 0 then _ else if r = 0 then _ else _) = _; rw [if_neg hr.le.not_gt, if_neg hr.ne']⟩

/-- The mean of squares of real numbers, with a positive number added, is positive. -/
theorem mean_sq_pos {n : ℕ} {x : Fin n → EReal} (hx : ∀ k, IsReal (x k)) {c e : ℝ} (hc : 0 ≤ c) (he : 0 < e) :
    IsPos ((∑ k, x k * x k) * (c : EReal) + (e : EReal)) := by
  choose x' hx' using hx
  refine ⟨(∑ k, x' k * x' k) * c + e, ?_, ?_⟩
  · have : 0 ≤ ∑ k, x' k * x' k := Finset.sum_nonneg fun k _ => mul_self_nonneg _
    positivity
  · simp only [hx', EReal.coe_add, EReal.coe_mul, coe_sum]

/-- A square is not negative. -/
theorem square_nonneg (x : EReal) : 0 ≤ x * x := by
  induction x with
  | bot => rw [EReal.bot_mul_bot]; exact le_top
  | top => rw [EReal.top_mul_top]; exact le_top
  | coe r => rw [← EReal.coe_mul]; exact EReal.coe_nonneg.mpr (mul_self_nonneg r)

/-- The square of what is not a real number is infinite. -/
theorem square_infinite {x : EReal} (h : ¬ IsReal x) : x * x = ⊤ := by
  induction x with
  | bot => exact EReal.bot_mul_bot
  | top => exact EReal.top_mul_top
  | coe r => exact absurd ⟨r, rfl⟩ h

/-- The sigmoid is not negative. -/
theorem sigmoid_nonneg (x : EReal) : 0 ≤ Ideal.div 1 (1 + Ideal.exp x) := by
  have h0 : 0 ≤ Ideal.exp x := by
    induction x with
    | bot => exact le_refl _
    | top => exact le_top
    | coe r => exact EReal.coe_nonneg.mpr (Real.exp_pos r).le
  have h1 : (1 : EReal) ≤ 1 + Ideal.exp x := le_add_of_nonneg_right h0
  have h2 : (1 : EReal) + Ideal.exp x ≠ 0 := by intro e; rw [e] at h1; exact absurd h1 (by simp)
  unfold Ideal.div
  rw [if_neg h2, one_mul]
  exact EReal.inv_nonneg_of_nonneg (zero_le_one.trans h1)

/-- A real factor goes into a sum of four terms that are not negative. -/
theorem mul_sum_four {a : EReal} (ha : 0 ≤ a) {f : Fin 4 → EReal} (hf : ∀ i, 0 ≤ f i) : a * ∑ i, f i = ∑ i, a * f i := by
  simp only [Fin.sum_univ_four]
  rw [EReal.left_distrib_of_nonneg (add_nonneg (add_nonneg (hf 0) (hf 1)) (hf 2)) (hf 3),
    EReal.left_distrib_of_nonneg (add_nonneg (hf 0) (hf 1)) (hf 2), EReal.left_distrib_of_nonneg (hf 0) (hf 1)]

/-- The exact GELU, written by the error function and by its complement, at a factor that is the reciprocal of a root. -/
theorem gelu_eq {s : ℝ} (hs : s ≠ 0) (h c : EReal) :
    c * h * (1 + Ideal.erf (h * ((s⁻¹ : ℝ) : EReal))) = c * h * Ideal.erfc (Ideal.div (-h) (s : EReal)) := by
  rw [Ideal.div_coe hs, neg_mul, Ideal.erfc_neg, one_div]

end Cert.Reals

end
-- ==== Proof.RowFacts.lean ====
/-
  Facts on a row: scaled, it holds real numbers, and the lane that the kernel folds the gate's factor into is the
  reference's sigmoid.
-/
module

public import proofs.«01_k».proof.Proof.Reals
public import proofs.«01_k».proof.Proof.Row

@[expose] public section

noncomputable section

namespace Cert.Row

open Cert.Reals Idealize.ShloMosaic

/-- The scale of a row of real numbers is a real number. -/
theorem scale_real {x : Fin 2048 → EReal} (hx : ∀ k, IsReal (x k)) : IsReal (scale x) :=
  (mean_sq_pos hx (by norm_num) (by norm_num)).rsqrt

/-- The scale of a row that holds an infinity is zero: the mean square is infinite. -/
theorem scale_infinite {x : Fin 2048 → EReal} (hx : ¬ ∀ k, IsReal (x k)) : scale x = 0 := by
  obtain ⟨k, hk⟩ := not_forall.mp hx
  have hsum : ∑ k, x k * x k = ⊤ := top_le_iff.mp ((square_infinite hk).symm.le.trans
    (Finset.single_le_sum (f := fun k => x k * x k) (fun i _ => square_nonneg (x i)) (Finset.mem_univ k)))
  unfold scale
  rw [hsum, EReal.top_mul_coe_of_pos (by norm_num), EReal.top_add_coe, Ideal.rsqrt_top]

/-- A row's elements, scaled, are real numbers, whatever the row holds. -/
theorem scaled_real (x : Fin 2048 → EReal) (k : Fin 2048) : IsReal (x k * scale x) := by
  by_cases hx : ∀ k, IsReal (x k)
  · exact (hx k).mul (scale_real hx)
  · rw [scale_infinite hx, mul_zero]
    exact IsReal.coe 0

/-- The lane whose weights and bias hold the gate's factor already is the gate's sigmoid, whatever the row holds. -/
theorem lane_eq_gate (x : Fin 2048 → EReal) {w : Fin 2048 → EReal} {a : EReal} (hw : ∀ k, IsReal (w k)) (ha : IsReal a) (b c : EReal) :
    lane x (fun k => a * w k) (a * b + c) = gate x w a b c := by
  by_cases hx : ∀ k, IsReal (x k)
  · exact congrArg sigmoid (logit_eq (scale_real hx) ha hx hw b c)
  · unfold lane gate
    simp [scale_infinite hx]

/-- A gate's sigmoid is not negative. -/
theorem gate_nonneg (x w : Fin 2048 → EReal) (a b c : EReal) : 0 ≤ gate x w a b c := sigmoid_nonneg _

end Cert.Row

end
-- ==== Proof.RefValue.lean ====
/-
  The reference's named terms at the extended reals, read at an index.
-/
module

public import proofs.«01_k».proof.Proof.Gen.ReferenceIdeal.Run
public import proofs.«01_k».proof.Proof.Consts
public import proofs.«01_k».proof.Proof.Reals
public import proofs.«01_k».proof.Proof.RowFacts
public import Idealize.ShloMosaic.Lib.Pointwise
public import Idealize.ShloMosaic.Lib.Tactic.CleanTypes

@[expose] public section

set_option maxRecDepth 16384

noncomputable section

namespace Cert.ReferenceIdeal.At

open Cert.ReferenceIdeal Cert.ReferenceIdeal.Gen Cert.ReferenceIdeal.Value Cert.Row Cert.Reals Idealize.ShloMosaic Idealize.ShloMosaic.TcCoe Idealize.ShloMosaic.StableHlo

variable (V0 : Valuation τ sig (Elt Ideal))

/-- A row of the input. -/
def xrow (B : Fin 4) (T : Fin 2048) : Fin 2048 → EReal := fun k => rd (S := S4x2048x2048) (V0 (Proc.tc.devRef main_arg0)) (ix3 B T k)

/-- A row of a projection's weights: its four stretches added. -/
def stretches {n : Nat} (w : Vec Ideal ⟨2, ![n, 8192]⟩ .f32) (i : Fin n) : Fin 2048 → EReal :=
  fun k => ∑ q : Fin 4, rd w (ix2 i ⟨q.val * 2048 + k.val, by omega⟩)

/-- The four sigmoids of the input gate. -/
def preGate (B : Fin 4) (T : Fin 2048) (i : Fin 4) : EReal :=
  gate (xrow V0 B T) (stretches (n := 4) (V0 (Proc.tc.devRef main_arg1)) i) (rd (S := S1) (V0 (Proc.tc.devRef main_arg7)) (ix1 0))
    (rd (S := S4) (V0 (Proc.tc.devRef main_arg2)) (ix1 i)) (rd (S := S4) (V0 (Proc.tc.devRef main_arg10)) (ix1 i))

/-- The four sigmoids of the output gate. -/
def postGate (B : Fin 4) (T : Fin 2048) (i : Fin 4) : EReal :=
  gate (xrow V0 B T) (stretches (n := 4) (V0 (Proc.tc.devRef main_arg3)) i) (rd (S := S1) (V0 (Proc.tc.devRef main_arg8)) (ix1 0))
    (rd (S := S4) (V0 (Proc.tc.devRef main_arg4)) (ix1 i)) (rd (S := S4) (V0 (Proc.tc.devRef main_arg11)) (ix1 i))

/-- The scaled rows. -/
theorem v9_at (B : Fin 4) (T k : Fin 2048) : (res_main_v9 V0 : Vec Ideal S4x2048x2048 .f32) (ix3 B T k)
    = xrow V0 B T k * scale (xrow V0 B T) := by
  unfold res_main_v9
  clean_types
  pointwise
  rw [Consts.rows, Consts.eps, Ideal.div_coe (by norm_num)]
  rfl

/-- The logits of the mixing matrix, exponentiated, are positive where the projection's weights, the biases and
    the factor are real numbers. -/
theorem v61_pos (h5 : ∀ i, IsReal (rd (S := S16x8192) (V0 (Proc.tc.devRef main_arg5)) i))
    (h6 : ∀ i, IsReal (rd (S := S16) (V0 (Proc.tc.devRef main_arg6)) i)) (h9 : ∀ i, IsReal (rd (S := S1) (V0 (Proc.tc.devRef main_arg9)) i))
    (h12 : ∀ i, IsReal (rd (S := S4x4) (V0 (Proc.tc.devRef main_arg12)) i)) (B : Fin 4) (T : Fin 2048) (i j : Fin 4) :
    IsPos (rd (S := S4x2048x4x4) (res_main_v61 V0) (ix4 B T i j)) := by
  have e : ∃ s : EReal, IsReal s ∧ rd (S := S4x2048x4x4) (res_main_v61 V0) (ix4 B T i j) = Ideal.exp s := by
    unfold rd res_main_v61
    clean_types
    pointwise
    refine ⟨_, ?_, rfl⟩
    refine ((h9 _).mul ((IsReal.sum fun k => ?_).add (h6 _))).add (h12 _)
    rw [v9_at]
    exact (scaled_real (xrow V0 B T) k).mul (IsReal.sum fun q => h5 _)
  obtain ⟨s, hs, e⟩ := e
  rw [e]
  exact hs.exp

/-- The hidden values before the GELU. -/
theorem v149_at (B : Fin 4) (T : Fin 2048) (f : Fin 8192) : (res_main_v149 V0 : Vec Ideal S4x2048x8192 .f32) (ix3 B T f)
    = hidden (xrow V0 B T) (∑ i, preGate V0 B T i) (fun k => rd (S := S2048x8192) (V0 (Proc.tc.devRef main_arg13)) (ix2 k f))
        (rd (S := S8192) (V0 (Proc.tc.devRef main_arg14)) (ix1 f)) := by
  unfold res_main_v149
  clean_types
  pointwise
  simp only [v9_at]
  rfl

end Cert.ReferenceIdeal.At

end
-- ==== Proof.Sinkhorn.lean ====
/-
  The reference's normalisation of the mixing matrices: each step keeps every element positive, and after the last step
  over the columns the elements of a matrix sum to four.
-/
module

public import proofs.«01_k».proof.Proof.RefValue

@[expose] public section

set_option maxRecDepth 16384

noncomputable section

namespace Cert.ReferenceIdeal.Sinkhorn

open Cert.ReferenceIdeal Cert.ReferenceIdeal.Gen Cert.ReferenceIdeal.Value Cert.Row Cert.Reals Idealize.ShloMosaic Idealize.ShloMosaic.TcCoe Idealize.ShloMosaic.StableHlo

/-- The array of matrices, each row divided by its sum. -/
abbrev rows (A : FVec Ideal S4x2048x4x4 .f32) : FVec Ideal S4x2048x4x4 .f32 :=
  Host.divf A (broadcastInDim S4x2048x4x4 ![0, 1, 2, 3] bcast_S4x2048x4x1_S4x2048x4x4_0_1_2_3 (broadcastInDim S4x2048x4x1 ![0, 1, 2] bcast_S4x2048x4_S4x2048x4x1_0_1_2 (Host.reduceAdd A (constant S_ .f32 0x00000000#32) reducesTo_S4x2048x4x4_S4x2048x4_d3 h_S_)))

/-- The array of matrices, each column divided by its sum. -/
abbrev cols (A : FVec Ideal S4x2048x4x4 .f32) : FVec Ideal S4x2048x4x4 .f32 :=
  Host.divf A (broadcastInDim S4x2048x4x4 ![0, 1, 2, 3] bcast_S4x2048x1x4_S4x2048x4x4_0_1_2_3 (broadcastInDim S4x2048x1x4 ![0, 1, 3] bcast_S4x2048x4_S4x2048x1x4_0_1_3 (Host.reduceAdd A (constant S_ .f32 0x00000000#32) reducesTo_S4x2048x4x4_S4x2048x4_d2 h_S_)))

/-- An element of a row step: the element over its row's sum. -/
theorem rows_at (A : Vec Ideal S4x2048x4x4 .f32) (B : Fin 4) (T : Fin 2048) (i j : Fin 4) :
    rows A (ix4 B T i j) = Ideal.div (rd A (ix4 B T i j)) (∑ y : Fin 4, rd A (ix4 B T i y)) := by
  pointwise [rows]

/-- An element of a column step: the element over its column's sum. -/
theorem cols_at (A : Vec Ideal S4x2048x4x4 .f32) (B : Fin 4) (T : Fin 2048) (i j : Fin 4) :
    cols A (ix4 B T i j) = Ideal.div (rd A (ix4 B T i j)) (∑ y : Fin 4, rd A (ix4 B T y j)) := by
  pointwise [cols]

/-- Every element of every matrix is a positive real number. -/
def AllPos (A : Vec Ideal S4x2048x4x4 .f32) : Prop := ∀ (B : Fin 4) (T : Fin 2048) (i j : Fin 4), IsPos (rd A (ix4 B T i j))

/-- A row step keeps every element positive. -/
theorem AllPos.rows {A : Vec Ideal S4x2048x4x4 .f32} (h : AllPos A) : AllPos (rows A) := fun B T i j => by
  rw [rd, rows_at]
  exact (h B T i j).div (IsPos.sum fun y => h B T i y)

/-- A column step keeps every element positive. -/
theorem AllPos.cols {A : Vec Ideal S4x2048x4x4 .f32} (h : AllPos A) : AllPos (cols A) := fun B T i j => by
  rw [rd, cols_at]
  exact (h B T i j).div (IsPos.sum fun y => h B T y j)

/-- After a column step of positive matrices the elements of each matrix sum to four, one from each column. -/
theorem total {A : Vec Ideal S4x2048x4x4 .f32} (h : AllPos A) (B : Fin 4) (T : Fin 2048) :
    ∑ i : Fin 4, ∑ j : Fin 4, rd (cols A) (ix4 B T i j) = ((4 : ℝ) : EReal) := by
  rw [Finset.sum_comm]
  have one : ∀ j : Fin 4, ∑ i : Fin 4, rd (cols A) (ix4 B T i j) = ((1 : ℝ) : EReal) := fun j => by
    simp only [rd, cols_at]
    exact sum_div_sum fun i => h B T i j
  rw [Finset.sum_congr rfl fun j _ => one j, ← coe_sum]
  norm_num

variable (V0 : Valuation τ sig (Elt Ideal))

/-- The matrices before the last column step are positive where the first ones are. -/
theorem v137_pos (h : AllPos (res_main_v61 V0)) : AllPos (res_main_v137 V0) := by
  change AllPos (rows (res_main_v133 V0))
  exact h.rows.cols.rows.cols.rows.cols.rows.cols.rows.cols.rows.cols.rows.cols.rows.cols.rows.cols.rows

end Cert.ReferenceIdeal.Sinkhorn

end
-- ==== Proof.RefResult.lean ====
/-
  The reference's result at the extended reals, read at an index.
-/
module

public import proofs.«01_k».proof.Proof.Sinkhorn

@[expose] public section

set_option maxRecDepth 16384

noncomputable section

namespace Cert.ReferenceIdeal.At

open Cert.ReferenceIdeal Cert.ReferenceIdeal.Gen Cert.ReferenceIdeal.Value Cert.Row Cert.Reals Idealize.ShloMosaic Idealize.ShloMosaic.TcCoe Idealize.ShloMosaic.StableHlo

variable (V0 : Valuation τ sig (Elt Ideal))

/-- The mixing matrices' totals, one for each row. -/
def totals : FVec Ideal S4x2048 .f32 :=
  Host.reduceAdd (Host.divf (res_main_v137 V0) (broadcastInDim S4x2048x4x4 ![0, 1, 2, 3] bcast_S4x2048x1x4_S4x2048x4x4_0_1_2_3 (broadcastInDim S4x2048x1x4 ![0, 1, 3] bcast_S4x2048x4_S4x2048x1x4_0_1_3 (Host.reduceAdd (res_main_v137 V0) (constant S_ .f32 0x00000000#32) reducesTo_S4x2048x4x4_S4x2048x4_d2 h_S_)))) (constant S_ .f32 0x00000000#32) reducesTo_S4x2048x4x4_S4x2048_d2_3 h_S_

/-- The network's rows with their biases. -/
def network : FVec Ideal S4x2048x2048 .f32 :=
  addf (Host.dotGeneral (φ₁ := .f32) (φ₂ := .f32) dot_S4x2048x8192_S8192x2048_S4x2048x2048_2_0_01_1_n_n none (mulf (mulf (broadcastInDim S4x2048x8192 ![] bcast_S_S4x2048x8192 (constant S_ .f32 0x3F000000#32)) (res_main_v149 V0)) (Host.erfc (Host.divf (Host.negf (res_main_v149 V0)) (broadcastInDim S4x2048x8192 ![] bcast_S_S4x2048x8192 (Host.sqrt (constant S_ .f32 0x40000000#32)))))) (V0 (Proc.devRef .tc main_arg15))) (broadcastInDim S4x2048x2048 ![0, 1, 2] bcast_S1x1x2048_S4x2048x2048_0_1_2 (broadcastInDim S1x1x2048 ![2] bcast_S2048_S1x1x2048_2 (V0 (Proc.devRef .tc main_arg16))))

/-- The output gates, one for each row. -/
def outGates : FVec Ideal S4x2048 .f32 :=
  Host.reduceAdd (mulf (broadcastInDim S4x2048x4 ![] bcast_S_S4x2048x4 (constant S_ .f32 0x40000000#32)) (Host.divf (broadcastInDim S4x2048x4 ![] bcast_S_S4x2048x4 (constant S_ .f32 0x3F800000#32)) (addf (broadcastInDim S4x2048x4 ![] bcast_S_S4x2048x4 (constant S_ .f32 0x3F800000#32)) (Host.exp (Host.negf (addf (mulf (broadcastInDim S4x2048x4 ![0, 1, 2] bcast_S1x1x1_S4x2048x4_0_1_2 (broadcastInDim S1x1x1 ![2] bcast_S1_S1x1x1_2 (V0 (Proc.devRef .tc main_arg8)))) (addf (Host.dotGeneral (φ₁ := .f32) (φ₂ := .f32) dot_S4x2048x2048_S4x2048_S4x2048x4_2_1_01_0_n_n none (res_main_v9 V0) (Host.reduceAdd (shapeCast _ (V0 (Proc.devRef .tc main_arg3)) shapeCasts_S4x8192_S4x4x2048) (constant S_ .f32 0x00000000#32) reducesTo_S4x4x2048_S4x2048_d1 h_S_)) (broadcastInDim S4x2048x4 ![0, 1, 2] bcast_S1x1x4_S4x2048x4_0_1_2 (broadcastInDim S1x1x4 ![2] bcast_S4_S1x1x4_2 (V0 (Proc.devRef .tc main_arg4)))))) (broadcastInDim S4x2048x4 ![0, 1, 2] bcast_S1x1x4_S4x2048x4_0_1_2 (broadcastInDim S1x1x4 ![2] bcast_S4_S1x1x4_2 (V0 (Proc.devRef .tc main_arg11)))))))))) (constant S_ .f32 0x00000000#32) reducesTo_S4x2048x4_S4x2048_d2 h_S_

/-- The reference's result, of those three. -/
def result : FVec Ideal S8192x2048 .f32 :=
  shapeCast _ (addf (mulf (V0 (Proc.devRef .tc main_arg0)) (broadcastInDim S4x2048x2048 ![0, 1, 2] bcast_S4x2048x1_S4x2048x2048_0_1_2 (broadcastInDim S4x2048x1 ![0, 1] bcast_S4x2048_S4x2048x1_0_1 (totals V0)))) (mulf (network V0) (broadcastInDim S4x2048x2048 ![0, 1, 2] bcast_S4x2048x1_S4x2048x2048_0_1_2 (broadcastInDim S4x2048x1 ![0, 1] bcast_S4x2048_S4x2048x1_0_1 (outGates V0))))) shapeCasts_S4x2048x2048_S8192x2048

/-- A matrix's total, the elements of the last column step summed, is four. -/
theorem totals_at (h : Sinkhorn.AllPos (res_main_v61 V0)) (B : Fin 4) (T : Fin 2048) : totals V0 (ix2 B T) = ((4 : ℝ) : EReal) := by
  refine Eq.trans ?_ (Sinkhorn.total (Sinkhorn.v137_pos V0 h) B T)
  simp only [rd, Sinkhorn.cols_at]
  unfold totals
  pointwise

/-- The host's square root of two. -/
theorem sqrt_two : Ideal.sqrt (((2 : ℝ)) : EReal) = ((Real.sqrt 2 : ℝ) : EReal) := by
  rw [Ideal.sqrt_coe, if_neg (by norm_num)]

/-- An element of the network's rows. -/
theorem network_at (B : Fin 4) (T l : Fin 2048) : network V0 (ix3 B T l)
    = (∑ f : Fin 8192, gelu (hidden (xrow V0 B T) (∑ i, preGate V0 B T i) (fun k => rd (S := S2048x8192) (V0 (Proc.tc.devRef main_arg13)) (ix2 k f))
        (rd (S := S8192) (V0 (Proc.tc.devRef main_arg14)) (ix1 f))) * rd (S := S8192x2048) (V0 (Proc.tc.devRef main_arg15)) (ix2 f l))
      + rd (S := S2048) (V0 (Proc.tc.devRef main_arg16)) (ix1 l) := by
  unfold network
  clean_types
  pointwise
  simp only [v149_at, Consts.half, Consts.two, sqrt_two]
  exact congrArg (· + _) (Finset.sum_congr rfl fun f _ => congrArg (· * _) (gelu_eq (Real.sqrt_ne_zero'.mpr (by norm_num)) _ _).symm)

/-- A row's output gate: twice the sum of its sigmoids. -/
theorem outGates_at (B : Fin 4) (T : Fin 2048) : outGates V0 (ix2 B T) = ((2 : ℝ) : EReal) * ∑ i, postGate V0 B T i := by
  rw [mul_sum_four (f := postGate V0 B T) (EReal.coe_nonneg.mpr (by norm_num)) fun i => gate_nonneg _ _ _ _ _]
  unfold outGates
  clean_types
  pointwise
  simp only [v9_at, Consts.two]
  rfl

/-- THE REFERENCE'S RESULT at an index. -/
theorem result_at (h : Sinkhorn.AllPos (res_main_v61 V0)) (R : Fin 8192) (l : Fin 2048) : result V0 (ix2 R l)
    = out (xrow V0 ⟨R.val / 2048, by omega⟩ ⟨R.val % 2048, by omega⟩) (∑ i, preGate V0 ⟨R.val / 2048, by omega⟩ ⟨R.val % 2048, by omega⟩ i)
        (((2 : ℝ) : EReal) * ∑ i, postGate V0 ⟨R.val / 2048, by omega⟩ ⟨R.val % 2048, by omega⟩ i)
        (fun k f => rd (S := S2048x8192) (V0 (Proc.tc.devRef main_arg13)) (ix2 k f)) (fun f => rd (S := S8192) (V0 (Proc.tc.devRef main_arg14)) (ix1 f))
        (fun f l => rd (S := S8192x2048) (V0 (Proc.tc.devRef main_arg15)) (ix2 f l)) (fun l => rd (S := S2048) (V0 (Proc.tc.devRef main_arg16)) (ix1 l)) l := by
  unfold result out
  clean_types
  pointwise
  rw [totals_at V0 h, network_at, outGates_at, mul_comm]
  rfl

end Cert.ReferenceIdeal.At

end
-- ==== Proof.PreReals.lean ====
/-
  What the precondition says of an argument's elements: each of the arrays that it names holds real numbers.
-/
module

public import proofs.«01_k».proof.Defs
public import proofs.«01_k».proof.Proof.Gen.Pre_reals
public import proofs.«01_k».proof.Proof.Reals
public import proofs.«01_k».proof.Proof.Row
public import Idealize.ShloMosaic.Lib.Pointwise

@[expose] public section

set_option maxRecDepth 16384

noncomputable section

namespace Cert.PreReals

open Cert.Row Cert.Reals Idealize.ShloMosaic

/-- The pattern of the positive infinity reads as the top element. -/
theorem inf_bits : Ideal.ofBits .f32 0x7F800000#32 = ⊤ := by simp [Ideal.ofBits, Ideal.ieee]

/-- An array whose absolute values all compare below the infinity holds real numbers. -/
theorem real_of_compare {S : Shape} {h : Pre_reals.S_.BroadcastsInDim S (![] : Fin 0 → Fin S.rank)} {x : Vec Ideal S .f32}
    (e : cmpf .olt (Host.absf x) (broadcastInDim S ![] h (constant (F := Ideal) Pre_reals.S_ .f32 0x7F800000#32)) = (fun _ => 1#1))
    (i : S.Idx) : IsReal (rd x i) := by
  have e := congrFun e i
  refine IsReal.of_abs_lt ?_
  by_contra hn
  have z : cmpf .olt (Host.absf x) (broadcastInDim S ![] h (constant (F := Ideal) Pre_reals.S_ .f32 0x7F800000#32)) i = 0#1 := by
    change BitVec.ofBool (decide (max (rd x i) (-(rd x i)) < Ideal.ofBits .f32 0x7F800000#32)) = 0#1
    rw [inf_bits, decide_eq_false hn]
    rfl
  rw [z] at e
  exact absurd e (by decide)

/-- The arrays that the precondition names hold real numbers, on device `c`. -/
structure Named (m : (ℓ : Loc Cert.KernelIdeal.nD Cert.KernelIdeal.τ Cert.KernelIdeal.sig) → Buf (Elt Ideal) ℓ) (c : Dev Cert.KernelIdeal.nD) : Prop where
  pre_w : ∀ i, IsReal (rd (S := Pre_reals.S4x8192) (m ((c.tc : Thread Cert.KernelIdeal.nD Cert.KernelIdeal.τ).loc Cert.KernelIdeal.main_arg1)) i)
  post_w : ∀ i, IsReal (rd (S := Pre_reals.S4x8192) (m ((c.tc : Thread Cert.KernelIdeal.nD Cert.KernelIdeal.τ).loc Cert.KernelIdeal.main_arg3)) i)
  res_w : ∀ i, IsReal (rd (S := Pre_reals.S16x8192) (m ((c.tc : Thread Cert.KernelIdeal.nD Cert.KernelIdeal.τ).loc Cert.KernelIdeal.main_arg5)) i)
  res_b : ∀ i, IsReal (rd (S := Pre_reals.S16) (m ((c.tc : Thread Cert.KernelIdeal.nD Cert.KernelIdeal.τ).loc Cert.KernelIdeal.main_arg6)) i)
  alpha_pre : ∀ i, IsReal (rd (S := Pre_reals.S1) (m ((c.tc : Thread Cert.KernelIdeal.nD Cert.KernelIdeal.τ).loc Cert.KernelIdeal.main_arg7)) i)
  alpha_post : ∀ i, IsReal (rd (S := Pre_reals.S1) (m ((c.tc : Thread Cert.KernelIdeal.nD Cert.KernelIdeal.τ).loc Cert.KernelIdeal.main_arg8)) i)
  alpha_res : ∀ i, IsReal (rd (S := Pre_reals.S1) (m ((c.tc : Thread Cert.KernelIdeal.nD Cert.KernelIdeal.τ).loc Cert.KernelIdeal.main_arg9)) i)
  b_res : ∀ i, IsReal (rd (S := Pre_reals.S4x4) (m ((c.tc : Thread Cert.KernelIdeal.nD Cert.KernelIdeal.τ).loc Cert.KernelIdeal.main_arg12)) i)

/-- The precondition gives them. -/
theorem named {m : (ℓ : Loc Cert.KernelIdeal.nD Cert.KernelIdeal.τ Cert.KernelIdeal.sig) → Buf (Elt Ideal) ℓ}
    (h : @Pre_KernelIdeal_reals Pre_reals.Gen.facts m) (c : Dev Cert.KernelIdeal.nD) : Named m c := by
  obtain ⟨h1, h3, h5, h6, h7, h8, h9, h12⟩ := h c
  exact ⟨real_of_compare h1, real_of_compare h3, real_of_compare h5, real_of_compare h6, real_of_compare h7,
    real_of_compare h8, real_of_compare h9, real_of_compare h12⟩

end Cert.PreReals

end
-- ==== Proof.Equation.lean ====
/-
  The two results are one array: where the reference's arguments are the kernel's and the arrays that the precondition
  names hold real numbers.
-/
module

public import proofs.«01_k».proof.Proof.KernelHost
public import proofs.«01_k».proof.Proof.RefResult
public import proofs.«01_k».proof.Proof.PreReals

@[expose] public section

set_option maxRecDepth 16384

noncomputable section

namespace Cert.Equation

open Cert.KernelIdeal Cert.KernelIdeal.Gen Cert.Row Cert.Reals Idealize.ShloMosaic Idealize.ShloMosaic.TcCoe

variable {m : (ℓ : Loc nD τ sig) → Buf (Elt Ideal) ℓ} {c : Dev nD}

/-- A lane of the input gate is the gate's sigmoid. -/
theorem pre_lane (h : PreReals.Named m c) (R : Fin 8192) (i : Fin 4) : Fold.lane m c R (Fin.castAdd 4 i)
    = gate (Fold.xrow m c R) (ReferenceIdeal.At.stretches (n := 4) (m ((c : Thread nD τ).loc main_arg1)) i)
        (rd (S := S1) (m ((c : Thread nD τ).loc main_arg7)) (ix1 0)) (rd (S := S4) (m ((c : Thread nD τ).loc main_arg2)) (ix1 i))
        (rd (S := S4) (m ((c : Thread nD τ).loc main_arg10)) (ix1 i)) := by
  refine Eq.trans ?_ (lane_eq_gate _ (fun k => IsReal.sum fun q => h.pre_w _) (h.alpha_pre _) _ _)
  unfold Fold.lane
  refine congrArg₂ (lane _) (funext fun k => ?_) ?_
  · exact (Host.gate_weights_at m c k _).trans (dif_pos i.isLt)
  · exact (Host.gate_biases_at m c _).trans (dif_pos i.isLt)

/-- A lane of the output gate is the gate's sigmoid. -/
theorem post_lane (h : PreReals.Named m c) (R : Fin 8192) (i : Fin 4) : Fold.lane m c R (Fin.natAdd 4 i)
    = gate (Fold.xrow m c R) (ReferenceIdeal.At.stretches (n := 4) (m ((c : Thread nD τ).loc main_arg3)) i)
        (rd (S := S1) (m ((c : Thread nD τ).loc main_arg8)) (ix1 0)) (rd (S := S4) (m ((c : Thread nD τ).loc main_arg4)) (ix1 i))
        (rd (S := S4) (m ((c : Thread nD τ).loc main_arg11)) (ix1 i)) := by
  have hn : ¬ (Fin.natAdd 4 i).val < 4 := by simp
  have hi : (⟨(Fin.natAdd 4 i).val - 4, by omega⟩ : Fin 4) = i := Fin.ext (by simp)
  refine Eq.trans ?_ (lane_eq_gate _ (fun k => IsReal.sum fun q => h.post_w _) (h.alpha_post _) _ _)
  unfold Fold.lane
  refine congrArg₂ (lane _) (funext fun k => ?_) ?_
  · refine ((Host.gate_weights_at m c k _).trans (dif_neg hn)).trans ?_
    rw [hi]
  · refine ((Host.gate_biases_at m c _).trans (dif_neg hn)).trans ?_
    rw [hi]

variable {V0 : Valuation ReferenceIdeal.τ ReferenceIdeal.sig (Elt Ideal)}

/-- The reference's arguments, `V0`, are the kernel's, `m` on device `c`. -/
structure Agree (V0 : Valuation ReferenceIdeal.τ ReferenceIdeal.sig (Elt Ideal)) (m : (ℓ : Loc nD τ sig) → Buf (Elt Ideal) ℓ) (c : Dev nD) : Prop where
  x : ∀ i, rd (S := S4x2048x2048) (V0 (Proc.tc.devRef ReferenceIdeal.main_arg0)) i = rd (S := S4x2048x2048) (m ((c : Thread nD τ).loc main_arg0)) i
  pre_w : ∀ i, rd (S := S4x8192) (V0 (Proc.tc.devRef ReferenceIdeal.main_arg1)) i = rd (S := S4x8192) (m ((c : Thread nD τ).loc main_arg1)) i
  pre_b : ∀ i, rd (S := S4) (V0 (Proc.tc.devRef ReferenceIdeal.main_arg2)) i = rd (S := S4) (m ((c : Thread nD τ).loc main_arg2)) i
  post_w : ∀ i, rd (S := S4x8192) (V0 (Proc.tc.devRef ReferenceIdeal.main_arg3)) i = rd (S := S4x8192) (m ((c : Thread nD τ).loc main_arg3)) i
  post_b : ∀ i, rd (S := S4) (V0 (Proc.tc.devRef ReferenceIdeal.main_arg4)) i = rd (S := S4) (m ((c : Thread nD τ).loc main_arg4)) i
  res_w : ∀ i, rd (S := S16x8192) (V0 (Proc.tc.devRef ReferenceIdeal.main_arg5)) i = rd (S := S16x8192) (m ((c : Thread nD τ).loc main_arg5)) i
  res_b : ∀ i, rd (S := S16) (V0 (Proc.tc.devRef ReferenceIdeal.main_arg6)) i = rd (S := S16) (m ((c : Thread nD τ).loc main_arg6)) i
  alpha_pre : ∀ i, rd (S := S1) (V0 (Proc.tc.devRef ReferenceIdeal.main_arg7)) i = rd (S := S1) (m ((c : Thread nD τ).loc main_arg7)) i
  alpha_post : ∀ i, rd (S := S1) (V0 (Proc.tc.devRef ReferenceIdeal.main_arg8)) i = rd (S := S1) (m ((c : Thread nD τ).loc main_arg8)) i
  alpha_res : ∀ i, rd (S := S1) (V0 (Proc.tc.devRef ReferenceIdeal.main_arg9)) i = rd (S := S1) (m ((c : Thread nD τ).loc main_arg9)) i
  b_pre : ∀ i, rd (S := S4) (V0 (Proc.tc.devRef ReferenceIdeal.main_arg10)) i = rd (S := S4) (m ((c : Thread nD τ).loc main_arg10)) i
  b_post : ∀ i, rd (S := S4) (V0 (Proc.tc.devRef ReferenceIdeal.main_arg11)) i = rd (S := S4) (m ((c : Thread nD τ).loc main_arg11)) i
  b_res : ∀ i, rd (S := S4x4) (V0 (Proc.tc.devRef ReferenceIdeal.main_arg12)) i = rd (S := S4x4) (m ((c : Thread nD τ).loc main_arg12)) i
  W1 : ∀ i, rd (S := S2048x8192) (V0 (Proc.tc.devRef ReferenceIdeal.main_arg13)) i = rd (S := S2048x8192) (m ((c : Thread nD τ).loc main_arg13)) i
  b1 : ∀ i, rd (S := S8192) (V0 (Proc.tc.devRef ReferenceIdeal.main_arg14)) i = rd (S := S8192) (m ((c : Thread nD τ).loc main_arg14)) i
  W2 : ∀ i, rd (S := S8192x2048) (V0 (Proc.tc.devRef ReferenceIdeal.main_arg15)) i = rd (S := S8192x2048) (m ((c : Thread nD τ).loc main_arg15)) i
  b2 : ∀ i, rd (S := S2048) (V0 (Proc.tc.devRef ReferenceIdeal.main_arg16)) i = rd (S := S2048) (m ((c : Thread nD τ).loc main_arg16)) i

/-- The first matrices of the normalisation are positive. -/
theorem v61_pos (e : Agree V0 m c) (h : PreReals.Named m c) : ReferenceIdeal.Sinkhorn.AllPos (ReferenceIdeal.Value.res_main_v61 V0) :=
  ReferenceIdeal.At.v61_pos V0 (fun i => (h.res_w i).of_eq (e.res_w i)) (fun i => (h.res_b i).of_eq (e.res_b i))
    (fun i => (h.alpha_res i).of_eq (e.alpha_res i)) (fun i => (h.b_res i).of_eq (e.b_res i))

/-- THE EQUATION: the kernel's result is the reference's. -/
theorem result_eq (e : Agree V0 m c) (h : PreReals.Named m c) : (ReferenceIdeal.At.result V0 : Vec Ideal S8192x2048 .f32) = KernelIdeal.Value.G7 m c := by
  funext i
  obtain ⟨R, l, rfl⟩ : ∃ (R : Fin 8192) (l : Fin 2048), i = ix2 R l := ⟨i 0, i 1, by funext a; fin_cases a <;> rfl⟩
  refine (ReferenceIdeal.At.result_at V0 (v61_pos e h) R l).trans (Eq.trans ?_ (Fold.result_at_row m c R l).symm)
  have hx : ReferenceIdeal.At.xrow V0 ⟨R.val / 2048, by omega⟩ ⟨R.val % 2048, by omega⟩ = Fold.xrow m c R :=
    funext fun k => (e.x _).trans (Host.rows_at m c R k).symm
  have hpre : ∑ i, ReferenceIdeal.At.preGate V0 ⟨R.val / 2048, by omega⟩ ⟨R.val % 2048, by omega⟩ i = Fold.pre m c R :=
    Finset.sum_congr rfl fun i _ => by
      rw [pre_lane h R i]
      unfold ReferenceIdeal.At.preGate ReferenceIdeal.At.stretches
      simp only [hx, e.pre_w, e.alpha_pre, e.pre_b, e.b_pre]
  have hpost : ∑ i, ReferenceIdeal.At.postGate V0 ⟨R.val / 2048, by omega⟩ ⟨R.val % 2048, by omega⟩ i = ∑ i : Fin 4, Fold.lane m c R (Fin.natAdd 4 i) :=
    Finset.sum_congr rfl fun i _ => by
      rw [post_lane h R i]
      unfold ReferenceIdeal.At.postGate ReferenceIdeal.At.stretches
      simp only [hx, e.post_w, e.alpha_post, e.post_b, e.b_post]
  have hW1 : (fun (k : Fin 2048) (f : Fin 8192) => rd (S := S2048x8192) (V0 (Proc.tc.devRef ReferenceIdeal.main_arg13)) (ix2 k f))
      = fun k f => (V m c main_arg13 : Vec Ideal S2048x8192 .f32) (ix2 k f) :=
    funext fun k => funext fun f => (e.W1 _).trans (congrFun (V_main_arg13 m c).symm _)
  have hb1 : (fun f : Fin 8192 => rd (S := S8192) (V0 (Proc.tc.devRef ReferenceIdeal.main_arg14)) (ix1 f))
      = fun f => (V m c main_v22 : Vec Ideal S1x8192 .f32) (ix2 0 f) :=
    funext fun f => (e.b1 _).trans (Host.first_biases_at m c f).symm
  have hW2 : (fun (f : Fin 8192) (l : Fin 2048) => rd (S := S8192x2048) (V0 (Proc.tc.devRef ReferenceIdeal.main_arg15)) (ix2 f l))
      = fun f l => (V m c main_arg15 : Vec Ideal S8192x2048 .f32) (ix2 f l) :=
    funext fun f => funext fun l => (e.W2 _).trans (congrFun (V_main_arg15 m c).symm _)
  have hb2 : (fun l : Fin 2048 => rd (S := S2048) (V0 (Proc.tc.devRef ReferenceIdeal.main_arg16)) (ix1 l))
      = fun l => (V m c main_v23 : Vec Ideal S1x2048 .f32) (ix2 0 l) :=
    funext fun l => (e.b2 _).trans (Host.second_biases_at m c l).symm
  rw [hx, hpre, hpost, hW1, hb1, hW2, hb2]
  rfl

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_reals
public import Idealize.ShloMosaic.Adequacy
public import Idealize.ShloMosaic.Init
public import Idealize.ShloMosaic.Lib.Quiescent
public import proofs.«01_k».proof.Proof.Equation

@[expose] public section

noncomputable section

namespace Cert.Proof

open Idealize.ShloMosaic Idealize.SL.Sem Cert.Kernel

/-- The reference's frame: it runs, its arguments end unchanged, and it has no semaphore that could count. -/
theorem reference_frame : @quiescent_ReferenceIdeal Cert.ReferenceIdeal.Gen.facts := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the extended reals the kernel and the reference end with equal results. -/
theorem equal_results : @algebraic_KernelIdeal_ReferenceIdeal_pre_reals Cert.KernelIdeal.Gen.facts Cert.ReferenceIdeal.Gen.facts Cert.Pre_reals.Gen.facts := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16⟩ := hagree c
  exact Cert.Equation.result_eq (V0 := Idealize.ShloMosaic.StableHlo.launchContents m' c)
    ⟨congrFun a0, congrFun a1, congrFun a2, congrFun a3, congrFun a4, congrFun a5, congrFun a6, congrFun a7, congrFun a8, congrFun a9, congrFun a10, congrFun a11, congrFun a12, congrFun a13, congrFun a14, congrFun a15, congrFun a16⟩
    (Cert.PreReals.named hpre c)

theorem claim : Cert.Claim := ⟨Cert.Kernel.Gen.facts, Cert.KernelIdeal.Gen.facts, Cert.ReferenceIdeal.Gen.facts, Cert.Pre_reals.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  IdealRules.named_const.statement Cert.KernelIdeal.κ "inv_sqrt_2" .f32 0x3F3504F3#32 (((Real.sqrt 2)⁻¹ : ℝ) : EReal) rfl,
  equal_results⟩

end Cert.Proof

end
